-- ==== Defs.lean ====
def Pre_Kernel [hPre_cap_in_vocab : Cert.Pre_cap_in_vocab.Facts] (m : (ℓ : Loc Cert.Kernel.nD Cert.Kernel.τ Cert.Kernel.sig) → Buf (Elt Bits) ℓ) : Prop :=
  ∀ c : Dev Cert.Kernel.nD,
    (Cert.Pre_cap_in_vocab.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_cap_in_vocab : Cert.Pre_cap_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_cap_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_KernelIdeal_cap_in_vocab_and_finite [hPre_cap_in_vocab_and_finite : Cert.Pre_cap_in_vocab_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_cap_in_vocab_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_cap_in_vocab_and_finite [hPre_cap_in_vocab_and_finite : Cert.Pre_cap_in_vocab_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_cap_in_vocab_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_cap_in_vocab : Cert.Pre_cap_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_cap_in_vocab : Cert.Pre_cap_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_cap_in_vocab_and_finite [hKernelIdeal : Cert.KernelIdeal.Facts] [hPre_cap_in_vocab_and_finite : Cert.Pre_cap_in_vocab_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_cap_in_vocab_and_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_cap_in_vocab_and_finite [hReferenceIdeal : Cert.ReferenceIdeal.Facts] [hPre_cap_in_vocab_and_finite : Cert.Pre_cap_in_vocab_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_cap_in_vocab_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_cap_in_vocab_and_finite [hKernelIdeal : Cert.KernelIdeal.Facts] [hReferenceIdeal : Cert.ReferenceIdeal.Facts] [hPre_cap_in_vocab_and_finite : Cert.Pre_cap_in_vocab_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_cap_in_vocab_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v30)) (v1 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_v31) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_cap_in_vocab : Cert.Pre_cap_in_vocab.Facts) (hPre_cap_in_vocab_and_finite : Cert.Pre_cap_in_vocab_and_finite.Facts),
    quiescent_Kernel (hKernel := hKernel) (hPre_cap_in_vocab := hPre_cap_in_vocab)
    ∧ quiescent_KernelIdeal (hKernelIdeal := hKernelIdeal) (hPre_cap_in_vocab := hPre_cap_in_vocab)
    ∧ quiescent_KernelIdeal_pre_cap_in_vocab_and_finite (hKernelIdeal := hKernelIdeal) (hPre_cap_in_vocab_and_finite := hPre_cap_in_vocab_and_finite)
    ∧ quiescent_ReferenceIdeal (hReferenceIdeal := hReferenceIdeal)
    ∧ quiescent_ReferenceIdeal_pre_cap_in_vocab_and_finite (hReferenceIdeal := hReferenceIdeal) (hPre_cap_in_vocab_and_finite := hPre_cap_in_vocab_and_finite)
    ∧ preserves_Kernel_KernelIdeal
    ∧ algebraic_KernelIdeal_ReferenceIdeal_pre_cap_in_vocab_and_finite (hKernelIdeal := hKernelIdeal) (hReferenceIdeal := hReferenceIdeal) (hPre_cap_in_vocab_and_finite := hPre_cap_in_vocab_and_finite)
-- ==== Pre_cap_in_vocab.lean ====
abbrev S128x19x12000 : Shape := ⟨3, ![128, 19, 12000]⟩
abbrev S128x512 : Shape := ⟨2, ![128, 512]⟩
abbrev S128x20 : Shape := ⟨2, ![128, 20]⟩
abbrev S128 : Shape := ⟨1, ![128]⟩
abbrev S_ : Shape := ⟨0, ![]⟩

class Facts : Prop where
  bcast_S_S128x20 : S_.BroadcastsInDim S128x20 (![] : Fin 0 → Fin S128x20.rank)

variable [Facts]

def fn {F : FTy → Type} [FloatOps F] (main_arg0 : FVec F S128x19x12000 .f32) (main_arg1 : FVec F S128x512 .f32) (main_arg2 : FVec F S128x512 .f32) (main_arg3 : FVec F S128x512 .f32) (main_arg4 : FVec F S128x512 .f32) (main_arg5 : IVec S128x20 32) (main_arg6 : IVec S128 32) (main_arg7 : FVec F S128 .f32) : IVec S128x20 1 :=
  let main_c : IVec S_ 32 := constantI S_ 32 0#32
  let main_v0 : IVec S128x20 32 := broadcastInDim S128x20 ![] bcast_S_S128x20 main_c
  let main_v1 : IVec S128x20 1 := cmpi .sge main_arg5 main_v0
  let main_c_0 : IVec S_ 32 := constantI S_ 32 12000#32
  let main_v2 : IVec S128x20 32 := broadcastInDim S128x20 ![] bcast_S_S128x20 main_c_0
  let main_v3 : IVec S128x20 1 := cmpi .slt main_arg5 main_v2
  let main_v4 : IVec S128x20 1 := andi main_v1 main_v3
  main_v4
-- ==== Pre_cap_in_vocab_and_finite.lean ====
abbrev S128x19x12000 : Shape := ⟨3, ![128, 19, 12000]⟩
abbrev S128x512 : Shape := ⟨2, ![128, 512]⟩
abbrev S128x20 : Shape := ⟨2, ![128, 20]⟩
abbrev S128 : Shape := ⟨1, ![128]⟩
abbrev S_ : Shape := ⟨0, ![]⟩

class Facts : Prop where
  bcast_S_S128x20 : S_.BroadcastsInDim S128x20 (![] : Fin 0 → Fin S128x20.rank)
  bcast_S_S128x19x12000 : S_.BroadcastsInDim S128x19x12000 (![] : Fin 0 → Fin S128x19x12000.rank)
  reducesTo_S128x19x12000_S_d0_1_2 : S128x19x12000.ReducesTo [0, 1, 2] S_
  h_S_ : 0 < S_.numel
  bcast_S_S128 : S_.BroadcastsInDim S128 (![] : Fin 0 → Fin S128.rank)
  reducesTo_S128_S_d0 : S128.ReducesTo [0] S_

variable [Facts]

def fn {F : FTy → Type} [FloatOps F] (main_arg0 : FVec F S128x19x12000 .f32) (main_arg1 : FVec F S128x512 .f32) (main_arg2 : FVec F S128x512 .f32) (main_arg3 : FVec F S128x512 .f32) (main_arg4 : FVec F S128x512 .f32) (main_arg5 : IVec S128x20 32) (main_arg6 : IVec S128 32) (main_arg7 : FVec F S128 .f32) : IVec S128x20 1 :=
  let main_c : IVec S_ 32 := constantI S_ 32 0#32
  let main_v0 : IVec S128x20 32 := broadcastInDim S128x20 ![] bcast_S_S128x20 main_c
  let main_v1 : IVec S128x20 1 := cmpi .sge main_arg5 main_v0
  let main_c_0 : IVec S_ 32 := constantI S_ 32 12000#32
  let main_v2 : IVec S128x20 32 := broadcastInDim S128x20 ![] bcast_S_S128x20 main_c_0
  let main_v3 : IVec S128x20 1 := cmpi .slt main_arg5 main_v2
  let main_v4 : IVec S128x20 1 := andi main_v1 main_v3
  let main_v5 : FVec F S128x19x12000 .f32 := Host.absf main_arg0
  let main_cst : FVec F S_ .f32 := constant S_ .f32 0x7F800000#32
  let main_v6 : FVec F S128x19x12000 .f32 := broadcastInDim S128x19x12000 ![] bcast_S_S128x19x12000 main_cst
  let main_v7 : IVec S128x19x12000 1 := cmpf .olt main_v5 main_v6
  let main_c_1 : IVec S_ 1 := constantI S_ 1 1#1
  let main_v8 : IVec S_ 1 := (fun x v => Host.reduce IntOp.andi x v reducesTo_S128x19x12000_S_d0_1_2 h_S_) main_v7 main_c_1
  let main_v9 : IVec S128x20 1 := broadcastInDim S128x20 ![] bcast_S_S128x20 main_v8
  let main_v10 : IVec S128x20 1 := andi main_v4 main_v9
  let main_v11 : FVec F S128 .f32 := Host.absf main_arg7
  let main_cst_2 : FVec F S_ .f32 := constant S_ .f32 0x7F800000#32
  let main_v12 : FVec F S128 .f32 := broadcastInDim S128 ![] bcast_S_S128 main_cst_2
  let main_v13 : IVec S128 1 := cmpf .olt main_v11 main_v12
  let main_c_3 : IVec S_ 1 := constantI S_ 1 1#1
  let main_v14 : IVec S_ 1 := (fun x v => Host.reduce IntOp.andi x v reducesTo_S128_S_d0 h_S_) main_v13 main_c_3
  let main_v15 : IVec S128x20 1 := broadcastInDim S128x20 ![] bcast_S_S128x20 main_v14
  let main_v16 : IVec S128x20 1 := andi main_v10 main_v15
  main_v16
-- ==== Kernel.lean ====
abbrev S128x19x12000 : Shape := ⟨3, ![128, 19, 12000]⟩
abbrev S128x512 : Shape := ⟨2, ![128, 512]⟩
abbrev S128x20 : Shape := ⟨2, ![128, 20]⟩
abbrev S128 : Shape := ⟨1, ![128]⟩
abbrev S19x12000x128 : Shape := ⟨3, ![19, 12000, 128]⟩
abbrev S29184000 : Shape := ⟨1, ![29184000]⟩
abbrev S1x128 : Shape := ⟨2, ![1, 128]⟩
abbrev S128x19 : Shape := ⟨2, ![128, 19]⟩
abbrev S128x1 : Shape := ⟨2, ![128, 1]⟩
abbrev S19 : Shape := ⟨1, ![19]⟩
abbrev S1x19 : Shape := ⟨2, ![1, 19]⟩
abbrev S_ : Shape := ⟨0, ![]⟩
abbrev S2432 : Shape := ⟨1, ![2432]⟩
abbrev S32x76 : Shape := ⟨2, ![32, 76]⟩
abbrev S32x80 : Shape := ⟨2, ![32, 80]⟩
abbrev S80 : Shape := ⟨1, ![80]⟩
abbrev S1x80 : Shape := ⟨2, ![1, 80]⟩
abbrev S1x1 : Shape := ⟨2, ![1, 1]⟩
abbrev S1x12000x128 : Shape := ⟨3, ![1, 12000, 128]⟩
abbrev S1 : Shape := ⟨1, ![1]⟩
abbrev S12000x128 : Shape := ⟨2, ![12000, 128]⟩
abbrev S1x128x512 : Shape := ⟨3, ![1, 128, 512]⟩
abbrev S1x1x1 : Shape := ⟨3, ![1, 1, 1]⟩
abbrev S1x32x80 : Shape := ⟨3, ![1, 32, 80]⟩

abbrev nBuf : Table → Nat
  | .hbm => 49
  | .local .tc .vmem => 11
  | .local .tc .smem => 4
  | .local .scVector .vmem => 2
  | _ => 0

abbrev bufTy : (tb : Table) → Fin (nBuf tb) → BufTy
  | .hbm, ⟨0, _⟩ => ⟨S128x19x12000, .f32⟩
  | .hbm, ⟨1, _⟩ => ⟨S128x512, .f32⟩
  | .hbm, ⟨2, _⟩ => ⟨S128x512, .f32⟩
  | .hbm, ⟨3, _⟩ => ⟨S128x512, .f32⟩
  | .hbm, ⟨4, _⟩ => ⟨S128x512, .f32⟩
  | .hbm, ⟨5, _⟩ => ⟨S128x20, .i32⟩
  | .hbm, ⟨6, _⟩ => ⟨S128, .i32⟩
  | .hbm, ⟨7, _⟩ => ⟨S128, .f32⟩
  | .hbm, ⟨8, _⟩ => ⟨S19x12000x128, .f32⟩
  | .hbm, ⟨9, _⟩ => ⟨S29184000, .f32⟩
  | .hbm, ⟨10, _⟩ => ⟨S1x128, .i32⟩
  | .hbm, ⟨11, _⟩ => ⟨S1x128, .f32⟩
  | .hbm, ⟨12, _⟩ => ⟨S128x19, .i32⟩
  | .hbm, ⟨13, _⟩ => ⟨S128, .i32⟩
  | .hbm, ⟨14, _⟩ => ⟨S128x1, .i32⟩
  | .hbm, ⟨15, _⟩ => ⟨S19, .i32⟩
  | .hbm, ⟨16, _⟩ => ⟨S1x19, .i32⟩
  | .hbm, ⟨17, _⟩ => ⟨S_, .i32⟩
  | .hbm, ⟨18, _⟩ => ⟨S1x19, .i32⟩
  | .hbm, ⟨19, _⟩ => ⟨S1x19, .i32⟩
  | .hbm, ⟨20, _⟩ => ⟨S_, .i32⟩
  | .hbm, ⟨21, _⟩ => ⟨S128x19, .i32⟩
  | .hbm, ⟨22, _⟩ => ⟨S128x19, .i32⟩
  | .hbm, ⟨23, _⟩ => ⟨S128x19, .i32⟩
  | .hbm, ⟨24, _⟩ => ⟨S128x19, .i32⟩
  | .hbm, ⟨25, _⟩ => ⟨S128x19, .i32⟩
  | .hbm, ⟨26, _⟩ => ⟨S128x19, .i32⟩
  | .hbm, ⟨27, _⟩ => ⟨S2432, .i32⟩
  | .hbm, ⟨28, _⟩ => ⟨S32x76, .i32⟩
  | .hbm, ⟨29, _⟩ => ⟨S_, .i32⟩
  | .hbm, ⟨30, _⟩ => ⟨S_, .i32⟩
  | .hbm, ⟨31, _⟩ => ⟨S32x80, .i32⟩
  | .hbm, ⟨32, _⟩ => ⟨S128x1, .i32⟩
  | .hbm, ⟨33, _⟩ => ⟨S128x19, .i32⟩
  | .hbm, ⟨34, _⟩ => ⟨S32x76, .i32⟩
  | .hbm, ⟨35, _⟩ => ⟨S_, .i32⟩
  | .hbm, ⟨36, _⟩ => ⟨S_, .i32⟩
  | .hbm, ⟨37, _⟩ => ⟨S32x80, .i32⟩
  | .hbm, ⟨38, _⟩ => ⟨S128x1, .f32⟩
  | .hbm, ⟨39, _⟩ => ⟨S128x19, .f32⟩
  | .hbm, ⟨40, _⟩ => ⟨S32x76, .f32⟩
  | .hbm, ⟨41, _⟩ => ⟨S_, .i32⟩
  | .hbm, ⟨42, _⟩ => ⟨S_, .f32⟩
  | .hbm, ⟨43, _⟩ => ⟨S32x80, .f32⟩
  | .hbm, ⟨44, _⟩ => ⟨S32x80, .f32⟩
  | .hbm, ⟨45, _⟩ => ⟨S1x1, .f32⟩
  | .hbm, ⟨46, _⟩ => ⟨S1x1, .f32⟩
  | .hbm, ⟨47, _⟩ => ⟨S_, .f32⟩
  | .hbm, ⟨48, _⟩ => ⟨S_, .f32⟩
  | .local .tc .vmem, ⟨0, _⟩ => ⟨S1x12000x128, .f32⟩
  | .local .tc .vmem, ⟨1, _⟩ => ⟨S1x12000x128, .f32⟩
  | .local .tc .vmem, ⟨2, _⟩ => ⟨S1x128, .i32⟩
  | .local .tc .vmem, ⟨3, _⟩ => ⟨S1x128, .f32⟩
  | .local .tc .vmem, ⟨4, _⟩ => ⟨S32x80, .f32⟩
  | .local .tc .vmem, ⟨5, _⟩ => ⟨S32x80, .i32⟩
  | .local .tc .vmem, ⟨6, _⟩ => ⟨S32x80, .f32⟩
  | .local .tc .vmem, ⟨7, _⟩ => ⟨S128x512, .f32⟩
  | .local .tc .vmem, ⟨8, _⟩ => ⟨S128x512, .f32⟩
  | .local .tc .vmem, ⟨9, _⟩ => ⟨S128x512, .f32⟩
  | .local .tc .vmem, ⟨10, _⟩ => ⟨S128x512, .f32⟩
  | .local .tc .smem, ⟨0, _⟩ => ⟨S1x1, .f32⟩
  | .local .tc .smem, ⟨1, _⟩ => ⟨S1x1, .f32⟩
  | .local .tc .smem, ⟨2, _⟩ => ⟨S1, .f32⟩
  | .local .tc .smem, ⟨3, _⟩ => ⟨S1, .f32⟩
  | .local .scVector .vmem, ⟨0, _⟩ => ⟨S80, .i32⟩
  | .local .scVector .vmem, ⟨1, _⟩ => ⟨S80, .f32⟩
  | _, _ => ⟨S128x19x12000, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | .smem, ⟨2, _⟩ => true
  | .smem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 16 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTables nBuf rfl bufTy 4 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_v10 : Ref sig .tc := ⟨.hbm, 19, rfl⟩
abbrev main_c_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_1 : Ref sig .tc := ⟨.hbm, 29, rfl⟩
abbrev main_call0_v0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_2 : Ref sig .tc := ⟨.hbm, 35, rfl⟩
abbrev main_call1_v0 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_3 : Ref sig .tc := ⟨.hbm, 41, rfl⟩
abbrev main_call2_v0 : Ref sig .tc := ⟨.hbm, 42, rfl⟩
abbrev main_v27 : Ref sig .tc := ⟨.hbm, 43, rfl⟩
abbrev main_v28 : Ref sig .tc := ⟨.hbm, 44, rfl⟩
abbrev main_v29_0 : Ref sig .tc := ⟨.hbm, 45, rfl⟩
abbrev main_v29_1 : Ref sig .tc := ⟨.hbm, 46, rfl⟩
abbrev main_v30 : Ref sig .tc := ⟨.hbm, 47, rfl⟩
abbrev main_v31 : Ref sig .tc := ⟨.hbm, 48, rfl⟩
abbrev main_v1_scv : Ref sig .scVector := ⟨.hbm, 9, rfl⟩
abbrev main_v19_scv : Ref sig .scVector := ⟨.hbm, 31, rfl⟩
abbrev main_v28_scv : Ref sig .scVector := ⟨.hbm, 44, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg4_0 : Ref sig .tc := ⟨.vmem, 5, rfl⟩
abbrev cc1_stg5_0 : Ref sig .tc := ⟨.vmem, 6, rfl⟩
abbrev cc1_stg6_0 : Ref sig .tc := ⟨.vmem, 7, rfl⟩
abbrev cc1_stg7_0 : Ref sig .tc := ⟨.vmem, 8, rfl⟩
abbrev cc1_stg8_0 : Ref sig .tc := ⟨.vmem, 9, rfl⟩
abbrev cc1_stg9_0 : Ref sig .tc := ⟨.vmem, 10, rfl⟩
abbrev cc1_stg10_0 : Ref sig .tc := ⟨.smem, 0, rfl⟩
abbrev cc1_stg11_0 : Ref sig .tc := ⟨.smem, 1, rfl⟩
abbrev cc1_scratch0 : Ref sig .tc := ⟨.smem, 2, rfl⟩
abbrev cc1_scratch1 : Ref sig .tc := ⟨.smem, 3, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem6_0 : DmaSem sig := 10
abbrev cc1_sem7_0 : DmaSem sig := 11
abbrev cc1_sem8_0 : DmaSem sig := 12
abbrev cc1_sem9_0 : DmaSem sig := 13
abbrev cc1_sem10_0 : DmaSem sig := 14
abbrev cc1_sem11_0 : DmaSem sig := 15
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_1_r0 : BitVec 32 := 0#32
  ![v1.toNat, 0]
abbrev grid1 : Pipeline.Grid := ⟨1, ![19], ![false]⟩

def k1_cond2 (i : grid1.Coords) : BitVec 1 :=
  let arg0 : BitVec 32 := BitVec.ofNat 32 (i 0).val
  let c18_i32 : BitVec 32 := 18#32
  let v36 : BitVec 1 := Scalar.cmpi .eq arg0 c18_i32
  let v37 : BitVec 32 := Scalar.extui v36
  let c0_i32_16 : BitVec 32 := 0#32
  let v38 : BitVec 1 := Scalar.cmpi .ne v37 c0_i32_16
  v38

def k1_cond1 (i : grid1.Coords) : BitVec 1 :=
  let arg0 : BitVec 32 := BitVec.ofNat 32 (i 0).val
  let c0_i32 : BitVec 32 := 0#32
  let v13 : BitVec 1 := Scalar.cmpi .eq arg0 c0_i32
  let v14 : BitVec 32 := Scalar.extui v13
  let c0_i32_6 : BitVec 32 := 0#32
  let v15 : BitVec 1 := Scalar.cmpi .ne v14 c0_i32_6
  v15

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x12000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x80 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x80 .i32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x80 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128x512 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .smem S1x1 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .smem S1x1 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S128x19x12000 : Shape := ⟨3, ![128, 19, 12000]⟩
abbrev S128x512 : Shape := ⟨2, ![128, 512]⟩
abbrev S128x20 : Shape := ⟨2, ![128, 20]⟩
abbrev S128 : Shape := ⟨1, ![128]⟩
abbrev S128x19 : Shape := ⟨2, ![128, 19]⟩
abbrev S_ : Shape := ⟨0, ![]⟩
abbrev S128x19x1 : Shape := ⟨3, ![128, 19, 1]⟩
abbrev S128x1x1 : Shape := ⟨3, ![128, 1, 1]⟩
abbrev S128x19x1x1 : Shape := ⟨4, ![128, 19, 1, 1]⟩
abbrev S1 : Shape := ⟨1, ![1]⟩
abbrev S1x1x1x1 : Shape := ⟨4, ![1, 1, 1, 1]⟩
abbrev S19 : Shape := ⟨1, ![19]⟩
abbrev S1x19 : Shape := ⟨2, ![1, 19]⟩
abbrev S128x1 : Shape := ⟨2, ![128, 1]⟩

abbrev nBuf : Space → Nat
  | .hbm => 87
  | .vmem => 0
  | .smem => 0
  | _ => 0

abbrev bufTy : (tb : Table) → Fin (tcTables nBuf tb) → BufTy
  | .hbm, ⟨0, _⟩ => ⟨S128x19x12000, .f32⟩
  | .hbm, ⟨1, _⟩ => ⟨S128x512, .f32⟩
  | .hbm, ⟨2, _⟩ => ⟨S128x512, .f32⟩
  | .hbm, ⟨3, _⟩ => ⟨S128x512, .f32⟩
  | .hbm, ⟨4, _⟩ => ⟨S128x512, .f32⟩
  | .hbm, ⟨5, _⟩ => ⟨S128x20, .i32⟩
  | .hbm, ⟨6, _⟩ => ⟨S128, .i32⟩
  | .hbm, ⟨7, _⟩ => ⟨S128, .f32⟩
  | .hbm, ⟨8, _⟩ => ⟨S128x19, .i32⟩
  | .hbm, ⟨9, _⟩ => ⟨S_, .i32⟩
  | .hbm, ⟨10, _⟩ => ⟨S128, .i32⟩
  | .hbm, ⟨11, _⟩ => ⟨S128, .i32⟩
  | .hbm, ⟨12, _⟩ => ⟨S_, .f32⟩
  | .hbm, ⟨13, _⟩ => ⟨S128x19, .f32⟩
  | .hbm, ⟨14, _⟩ => ⟨S_, .f32⟩
  | .hbm, ⟨15, _⟩ => ⟨S128x19, .f32⟩
  | .hbm, ⟨16, _⟩ => ⟨S128x19, .f32⟩
  | .hbm, ⟨17, _⟩ => ⟨S128x19x1, .f32⟩
  | .hbm, ⟨18, _⟩ => ⟨S128x19x12000, .f32⟩
  | .hbm, ⟨19, _⟩ => ⟨S128x19x12000, .f32⟩
  | .hbm, ⟨20, _⟩ => ⟨S128x19x12000, .f32⟩
  | .hbm, ⟨21, _⟩ => ⟨S_, .f32⟩
  | .hbm, ⟨22, _⟩ => ⟨S128x19, .f32⟩
  | .hbm, ⟨23, _⟩ => ⟨S128x19x1, .f32⟩
  | .hbm, ⟨24, _⟩ => ⟨S128x19x1, .f32⟩
  | .hbm, ⟨25, _⟩ => ⟨S128x19x12000, .f32⟩
  | .hbm, ⟨26, _⟩ => ⟨S128x19x12000, .f32⟩
  | .hbm, ⟨27, _⟩ => ⟨S128x1x1, .f32⟩
  | .hbm, ⟨28, _⟩ => ⟨S128x19x12000, .f32⟩
  | .hbm, ⟨29, _⟩ => ⟨S128x19x12000, .f32⟩
  | .hbm, ⟨30, _⟩ => ⟨S128x19x1, .i32⟩
  | .hbm, ⟨31, _⟩ => ⟨S_, .i32⟩
  | .hbm, ⟨32, _⟩ => ⟨S128x19x1, .i32⟩
  | .hbm, ⟨33, _⟩ => ⟨S128x19x1, .i1⟩
  | .hbm, ⟨34, _⟩ => ⟨S_, .i32⟩
  | .hbm, ⟨35, _⟩ => ⟨S128x19x1, .i32⟩
  | .hbm, ⟨36, _⟩ => ⟨S128x19x1, .i32⟩
  | .hbm, ⟨37, _⟩ => ⟨S128x19x1, .i32⟩
  | .hbm, ⟨38, _⟩ => ⟨S128x19x1x1, .i32⟩
  | .hbm, ⟨39, _⟩ => ⟨S1, .i32⟩
  | .hbm, ⟨40, _⟩ => ⟨S_, .i32⟩
  | .hbm, ⟨41, _⟩ => ⟨S128x19x1x1, .i32⟩
  | .hbm, ⟨42, _⟩ => ⟨S128x19x1x1, .i1⟩
  | .hbm, ⟨43, _⟩ => ⟨S1x1x1x1, .i32⟩
  | .hbm, ⟨44, _⟩ => ⟨S128x19x1x1, .i32⟩
  | .hbm, ⟨45, _⟩ => ⟨S128x19x1x1, .i1⟩
  | .hbm, ⟨46, _⟩ => ⟨S128x19x1x1, .i1⟩
  | .hbm, ⟨47, _⟩ => ⟨S_, .i1⟩
  | .hbm, ⟨48, _⟩ => ⟨S128x19x1, .i1⟩
  | .hbm, ⟨49, _⟩ => ⟨S128x19x1, .f32⟩
  | .hbm, ⟨50, _⟩ => ⟨S_, .f32⟩
  | .hbm, ⟨51, _⟩ => ⟨S128x19x1, .f32⟩
  | .hbm, ⟨52, _⟩ => ⟨S128x19x1, .f32⟩
  | .hbm, ⟨53, _⟩ => ⟨S128x19, .f32⟩
  | .hbm, ⟨54, _⟩ => ⟨S19, .i32⟩
  | .hbm, ⟨55, _⟩ => ⟨S1x19, .i32⟩
  | .hbm, ⟨56, _⟩ => ⟨S128x1, .i32⟩
  | .hbm, ⟨57, _⟩ => ⟨S128x19, .i32⟩
  | .hbm, ⟨58, _⟩ => ⟨S128x19, .i32⟩
  | .hbm, ⟨59, _⟩ => ⟨S128x19, .i1⟩
  | .hbm, ⟨60, _⟩ => ⟨S128x19, .f32⟩
  | .hbm, ⟨61, _⟩ => ⟨S128x19, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S128x512, .f32⟩
  | .hbm, ⟨70, _⟩ => ⟨S128x512, .f32⟩
  | .hbm, ⟨71, _⟩ => ⟨S128x512, .f32⟩
  | .hbm, ⟨72, _⟩ => ⟨S128x512, .f32⟩
  | .hbm, ⟨73, _⟩ => ⟨S128x512, .f32⟩
  | .hbm, ⟨74, _⟩ => ⟨S128x512, .f32⟩
  | .hbm, ⟨75, _⟩ => ⟨S128x512, .f32⟩
  | .hbm, ⟨76, _⟩ => ⟨S128x512, .f32⟩
  | .hbm, ⟨77, _⟩ => ⟨S128x512, .f32⟩
  | .hbm, ⟨78, _⟩ => ⟨S128x512, .f32⟩
  | .hbm, ⟨79, _⟩ => ⟨S128x512, .f32⟩
  | .hbm, ⟨80, _⟩ => ⟨S128x512, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | _, _ => ⟨S128x19x12000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_call0_cst : Ref sig .tc := ⟨.hbm, 12, rfl⟩
abbrev main_call0_v0 : Ref sig .tc := ⟨.hbm, 13, rfl⟩
abbrev main_call0_cst_0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_cst_1 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_cst : Ref sig .tc := ⟨.hbm, 50, rfl⟩
abbrev main_call1_v14 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_cst : Ref sig .tc := ⟨.hbm, 62, rfl⟩
abbrev main_v18 : Ref sig .tc := ⟨.hbm, 63, rfl⟩
abbrev main_v19 : Ref sig .tc := ⟨.hbm, 64, rfl⟩
abbrev main_cst_0 : Ref sig .tc := ⟨.hbm, 65, rfl⟩
abbrev main_v20 : Ref sig .tc := ⟨.hbm, 66, rfl⟩
abbrev main_v21 : Ref sig .tc := ⟨.hbm, 67, rfl⟩
abbrev main_cst_1 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_cst_2 : Ref sig .tc := ⟨.hbm, 81, rfl⟩
abbrev main_v34 : Ref sig .tc := ⟨.hbm, 82, rfl⟩
abbrev main_cst_3 : Ref sig .tc := ⟨.hbm, 83, rfl⟩
abbrev main_v35 : Ref sig .tc := ⟨.hbm, 84, rfl⟩
abbrev main_cst_4 : Ref sig .tc := ⟨.hbm, 85, rfl⟩
abbrev main_v36 : Ref sig .tc := ⟨.hbm, 86, rfl⟩

abbrev nD : Nat := 1
abbrev τ : Topo := Topo.v7x

variable {F : FTy → Type} [FloatOps F]
-- ==== Proof.Sc.Setup.lean ====
/-
  The launch of the whole program: its pallas_calls and its SparseCore call as the library's launch theorem takes
  them, the algebra of ghost state (the SparseCore handshakes', the TensorCore pipeline's, the transfers' counters),
  and the value the SparseCore call leaves: each word of the index array names an element of the flat table.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Sc

open Cert.KernelIdeal Cert.KernelIdeal.Gen

open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem takes it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The ghost state's algebra -/

abbrev UH : Type := URounds (GSem nD τ sig) ℕ
abbrev UP : Type := UR sig nD τ
abbrev UU : Type := UH × (UP × Counters)

local notation "𝕄" => MT nD τ sig (HIx 1) (Elt F) ℕ UU ℕ

abbrev EH : Emb UH (MT nD τ sig (HIx 1) (Elt F) ℕ UU ℕ) := embL

/-- The TensorCore pipeline's rounds. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance : (EP (F := F)).LandsIn (upEmb : UEmb _ 𝕄) := by unfold EP; infer_instance

/-! ## The gathered value -/

/-- Element `n` of the flat table (any `n`: taken modulo the table's length). -/
def flatIx (n : ℕ) : S29184000.Idx := fun a => ⟨n % S29184000.size a, Nat.mod_lt _ (by
  match a with
  | ⟨0, _⟩ => exact (by norm_num : 0 < 29184000))⟩

/-- What the SparseCore call leaves of a table and an array of positions in it. -/
def gathered (tb : S29184000.Idx → F .f32) (ix : S32x80.Idx → BitVec 32) : S32x80.Idx → F .f32 :=
  fun j => tb (flatIx (ix j).toNat)

end Cert.Proof.Sc

end
-- ==== Proof.Tc.Body.lean ====
/-
  The body of the TensorCore kernel at one grid point, run with the values it leaves.
-/
module

public import proofs.«01_k».proof.Proof.Sc.Setup
public import Idealize.ShloMosaic.Lib.Pipeline.Value
public import Idealize.ShloMosaic.Lib.Pipeline.FrameBody

@[expose] public section

noncomputable section

namespace Cert.Proof.Tc

open Cert.Proof.Sc
open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- A memref held whole, what is read through it being `X`. -/
def ow (c : Dev nD) {sp : Space} {s : Shape} {e : EltTy} (M : Memref sig .tc sp s e) (X : s.Idx → Elt F e) : sProp 𝕄 :=
  iprop(∃ f, ⌜M.view.read (Elt F) f = X⌝ ∗ (M.view.loc (SparseCore.T c) ↦{fullShare} f))

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

variable [FloatOps F]

/-- After stores of which the last covers the whole shape, what is read is its payload. -/
theorem read_writes_unit {sig : RefSig} {κ : Kind} {sp : Space} {S : Shape} {e : EltTy} {v : View sig κ sp S e}
    {off : Fin S.rank → Nat} (h : off = fun _ => 0) (inb : ∀ a, off a + S.size a ≤ S.size a) (f : v.ty.Contents (Elt F))
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, by
    subst h; show y ∈ (Rect.whole S).set; rw [Rect.set_whole]; exact Finset.mem_univ y⟩)]
  exact View.canon_cons_unit_zero h inb w L

/-- The sums' starting value. -/
abbrev zero : F .f32 := Scalar.ofBits .f32 0x00000000#32

variable (c : Dev nD) (i : grid1.Coords)
  (arg1 : Memref sig .tc .vmem S1x12000x128 .f32) (harg1 : arg1.IsWhole)
  (arg2 : Memref sig .tc .vmem S1x128 .i32) (harg2 : arg2.IsWhole)
  (arg3 : Memref sig .tc .vmem S1x128 .f32) (harg3 : arg3.IsWhole)
  (arg4 : Memref sig .tc .vmem S32x80 .f32) (harg4 : arg4.IsWhole)
  (arg5 : Memref sig .tc .vmem S32x80 .i32) (harg5 : arg5.IsWhole)
  (arg6 : Memref sig .tc .vmem S32x80 .f32) (harg6 : arg6.IsWhole)
  (arg7 : Memref sig .tc .vmem S128x512 .f32) (harg7 : arg7.IsWhole)
  (arg8 : Memref sig .tc .vmem S128x512 .f32) (harg8 : arg8.IsWhole)
  (arg9 : Memref sig .tc .vmem S128x512 .f32) (harg9 : arg9.IsWhole)
  (arg10 : Memref sig .tc .vmem S128x512 .f32) (harg10 : arg10.IsWhole)
  (arg11 : Memref sig .tc .smem S1x1 .f32) (harg11 : arg11.IsWhole)
  (arg12 : Memref sig .tc .smem S1x1 .f32) (harg12 : arg12.IsWhole)
  (arg13 : Memref sig .tc .smem S1 .f32) (harg13 : arg13.IsWhole)
  (arg14 : Memref sig .tc .smem S1 .f32) (harg14 : arg14.IsWhole)

/-- A grid point that is neither the first nor the last: the two sums each take the column. -/
theorem body_mid (hc1 : ¬ k1_cond1 i = 1#1) (hc2 : ¬ k1_cond2 i = 1#1) (x : Vec F S1x12000x128 .f32) (ln : Vec F S1x128 .i32) (w : Vec F S1x128 .f32) (acc cnt : F .f32)
    (Q : PUnit → sProp 𝕄) :
    iprop(ow c arg1 x ∗ ow c arg2 ln ∗ ow c arg3 w ∗ ow c arg13 (fun _ => acc) ∗ ow c arg14 (fun _ => cnt)
        ∗ (iprop(ow c arg1 x ∗ ow c arg2 ln ∗ ow c arg3 w ∗ ow c arg13 (fun _ => k1_pay5 i x w ln acc) ∗ ow c arg14 (fun _ => k1_pay6 i ln cnt)) -∗ Q ⟨⟩))
      ⊢ wp frame (wpE (defs₀ (F := F)) 𝒱₀ (SparseCore.T c) none) Set.univ
          (cc1__tc_body i arg1 harg1 arg2 harg2 arg3 harg3 arg4 harg4 arg5 harg5 arg6 harg6 arg7 harg7 arg8 harg8 arg9 harg9 arg10 harg10 arg11 harg11 arg12 harg12 arg13 harg13 arg14 harg14) Q := by
  unfold ow
  iintro ⟨⟨%f1, %e1, H1⟩, ⟨%f2, %e2, H2⟩, ⟨%f3, %e3, H3⟩, ⟨%f13, %e13, H13⟩, ⟨%f14, %e14, H14⟩, Hk⟩
  rw [cc1__tc_body_eq_skeleton]; unfold cc1__tc_body_skel
  rw [k1_part2_eq_skeleton]; unfold k1_part2_skel

  sl_exec!
  sl_step
  iapply Hk
  isplitl [H1]
  · iexists _; isplitr; swap; (· iexact H1); ipureintro; exact e1
  isplitl [H2]
  · iexists _; isplitr; swap; (· iexact H2); ipureintro; exact e2
  isplitl [H3]
  · iexists _; isplitr; swap; (· iexact H3); ipureintro; exact e3
  isplitl [H13]
  · iexists _; isplitr; swap; (· iexact H13); ipureintro
    sl_unfold_words
    rw [read_writes_unit hz1]
    simp only [View.readAt_eq_ld, View.readCov_unit_zero (S := S1) _ hz1, View.ld_unit_zero (S := S1) hz1, View.ld_unit_zero (S := S1x128) hz2, View.ld_unit_zero (S := S32x80) hz2, View.ld_unit_zero (S := S128x512) hz2, View.ld_unit_zero (S := S1x12000x128) hz3, e1, e2, e3, e13, e14]
    try rfl
  · iexists _; isplitr; swap; (· iexact H14); ipureintro
    sl_unfold_words
    rw [read_writes_unit hz1]
    simp only [View.readAt_eq_ld, View.readCov_unit_zero (S := S1) _ hz1, View.ld_unit_zero (S := S1) hz1, View.ld_unit_zero (S := S1x128) hz2, View.ld_unit_zero (S := S32x80) hz2, View.ld_unit_zero (S := S128x512) hz2, View.ld_unit_zero (S := S1x12000x128) hz3, e1, e2, e3, e13, e14]
    try rfl

/-- The first grid point: the sums start at zero and take the column; the second result is stored. -/
theorem body_first (hc1 : k1_cond1 i = 1#1) (hc2 : ¬ k1_cond2 i = 1#1) (x : Vec F S1x12000x128 .f32) (ln : Vec F S1x128 .i32) (w : Vec F S1x128 .f32) (mu s2 mp sp : Vec F S128x512 .f32) (kl : Vec F S1x1 .f32) (a₀ c₀ : Vec F S1 .f32)
    (Q : PUnit → sProp 𝕄) :
    iprop(ow c arg1 x ∗ ow c arg2 ln ∗ ow c arg3 w ∗ ow c arg7 mu ∗ ow c arg8 s2 ∗ ow c arg9 mp ∗ ow c arg10 sp ∗ ow c arg12 kl ∗ ow c arg13 a₀ ∗ ow c arg14 c₀
        ∗ (iprop(ow c arg1 x ∗ ow c arg2 ln ∗ ow c arg3 w ∗ ow c arg7 mu ∗ ow c arg8 s2 ∗ ow c arg9 mp ∗ ow c arg10 sp ∗ ow c arg12 (fun _ => k1_pay4 mu s2 mp sp) ∗ ow c arg13 (fun _ => k1_pay5 i x w ln zero) ∗ ow c arg14 (fun _ => k1_pay6 i ln zero)) -∗ Q ⟨⟩))
      ⊢ wp frame (wpE (defs₀ (F := F)) 𝒱₀ (SparseCore.T c) none) Set.univ
          (cc1__tc_body i arg1 harg1 arg2 harg2 arg3 harg3 arg4 harg4 arg5 harg5 arg6 harg6 arg7 harg7 arg8 harg8 arg9 harg9 arg10 harg10 arg11 harg11 arg12 harg12 arg13 harg13 arg14 harg14) Q := by
  unfold ow
  iintro ⟨⟨%f1, %e1, H1⟩, ⟨%f2, %e2, H2⟩, ⟨%f3, %e3, H3⟩, ⟨%f7, %e7, H7⟩, ⟨%f8, %e8, H8⟩, ⟨%f9, %e9, H9⟩, ⟨%f10, %e10, H10⟩, ⟨%f12, %e12, H12⟩, ⟨%f13, %e13, H13⟩, ⟨%f14, %e14, H14⟩, Hk⟩
  rw [cc1__tc_body_eq_skeleton]; unfold cc1__tc_body_skel
  rw [k1_part2_eq_skeleton]; unfold k1_part2_skel

  sl_exec!
  sl_step
  iapply Hk
  isplitl [H1]
  · iexists _; isplitr; swap; (· iexact H1); ipureintro; exact e1
  isplitl [H2]
  · iexists _; isplitr; swap; (· iexact H2); ipureintro; exact e2
  isplitl [H3]
  · iexists _; isplitr; swap; (· iexact H3); ipureintro; exact e3
  isplitl [H7]
  · iexists _; isplitr; swap; (· iexact H7); ipureintro; exact e7
  isplitl [H8]
  · iexists _; isplitr; swap; (· iexact H8); ipureintro; exact e8
  isplitl [H9]
  · iexists _; isplitr; swap; (· iexact H9); ipureintro; exact e9
  isplitl [H10]
  · iexists _; isplitr; swap; (· iexact H10); ipureintro; exact e10
  isplitl [H12]
  · iexists _; isplitr; swap; (· iexact H12); ipureintro
    sl_unfold_words
    rw [read_writes_unit hz2]
    simp only [View.readAt_eq_ld, View.readCov_unit_zero (S := S1) _ hz1, View.ld_unit_zero (S := S1) hz1, View.ld_unit_zero (S := S1x128) hz2, View.ld_unit_zero (S := S32x80) hz2, View.ld_unit_zero (S := S128x512) hz2, View.ld_unit_zero (S := S1x12000x128) hz3, e1, e2, e3, e7, e8, e9, e10, e13, e14]
    try rfl
  isplitl [H13]
  · iexists _; isplitr; swap; (· iexact H13); ipureintro
    sl_unfold_words
    rw [read_writes_unit hz1]
    simp only [View.readAt_eq_ld, View.readCov_unit_zero (S := S1) _ hz1, View.ld_unit_zero (S := S1) hz1, View.ld_unit_zero (S := S1x128) hz2, View.ld_unit_zero (S := S32x80) hz2, View.ld_unit_zero (S := S128x512) hz2, View.ld_unit_zero (S := S1x12000x128) hz3, e1, e2, e3, e7, e8, e9, e10, e13, e14]
    try rfl
  · iexists _; isplitr; swap; (· iexact H14); ipureintro
    sl_unfold_words
    rw [read_writes_unit hz1]
    simp only [View.readAt_eq_ld, View.readCov_unit_zero (S := S1) _ hz1, View.ld_unit_zero (S := S1) hz1, View.ld_unit_zero (S := S1x128) hz2, View.ld_unit_zero (S := S32x80) hz2, View.ld_unit_zero (S := S128x512) hz2, View.ld_unit_zero (S := S1x12000x128) hz3, e1, e2, e3, e7, e8, e9, e10, e13, e14]
    try rfl

/-- The last grid point: the sums take the column, and the first result is stored. -/
theorem body_last (hc1 : ¬ k1_cond1 i = 1#1) (hc2 : k1_cond2 i = 1#1) (x : Vec F S1x12000x128 .f32) (ln : Vec F S1x128 .i32) (w : Vec F S1x128 .f32) (p : Vec F S32x80 .f32) (lt : Vec F S32x80 .i32) (wt : Vec F S32x80 .f32) (ce : Vec F S1x1 .f32) (acc cnt : F .f32)
    (Q : PUnit → sProp 𝕄) :
    iprop(ow c arg1 x ∗ ow c arg2 ln ∗ ow c arg3 w ∗ ow c arg4 p ∗ ow c arg5 lt ∗ ow c arg6 wt ∗ ow c arg11 ce ∗ ow c arg13 (fun _ => acc) ∗ ow c arg14 (fun _ => cnt)
        ∗ (iprop(ow c arg1 x ∗ ow c arg2 ln ∗ ow c arg3 w ∗ ow c arg4 p ∗ ow c arg5 lt ∗ ow c arg6 wt ∗ ow c arg11 (fun _ => k1_pay1 (k1_pay2 p lt wt (k1_pay5 i x w ln acc)) (k1_pay6 i ln cnt)) ∗ ow c arg13 (fun _ => k1_pay5 i x w ln acc) ∗ ow c arg14 (fun _ => k1_pay6 i ln cnt)) -∗ Q ⟨⟩))
      ⊢ wp frame (wpE (defs₀ (F := F)) 𝒱₀ (SparseCore.T c) none) Set.univ
          (cc1__tc_body i arg1 harg1 arg2 harg2 arg3 harg3 arg4 harg4 arg5 harg5 arg6 harg6 arg7 harg7 arg8 harg8 arg9 harg9 arg10 harg10 arg11 harg11 arg12 harg12 arg13 harg13 arg14 harg14) Q := by
  unfold ow
  iintro ⟨⟨%f1, %e1, H1⟩, ⟨%f2, %e2, H2⟩, ⟨%f3, %e3, H3⟩, ⟨%f4, %e4, H4⟩, ⟨%f5, %e5, H5⟩, ⟨%f6, %e6, H6⟩, ⟨%f11, %e11, H11⟩, ⟨%f13, %e13, H13⟩, ⟨%f14, %e14, H14⟩, Hk⟩
  rw [cc1__tc_body_eq_skeleton]; unfold cc1__tc_body_skel
  rw [k1_part2_eq_skeleton]; unfold k1_part2_skel
  rw [k1_part1_eq_skeleton]; unfold k1_part1_skel
  sl_exec!
  sl_step
  iapply Hk
  isplitl [H1]
  · iexists _; isplitr; swap; (· iexact H1); ipureintro; exact e1
  isplitl [H2]
  · iexists _; isplitr; swap; (· iexact H2); ipureintro; exact e2
  isplitl [H3]
  · iexists _; isplitr; swap; (· iexact H3); ipureintro; exact e3
  isplitl [H4]
  · iexists _; isplitr; swap; (· iexact H4); ipureintro; exact e4
  isplitl [H5]
  · iexists _; isplitr; swap; (· iexact H5); ipureintro; exact e5
  isplitl [H6]
  · iexists _; isplitr; swap; (· iexact H6); ipureintro; exact e6
  isplitl [H11]
  · iexists _; isplitr; swap; (· iexact H11); ipureintro
    sl_unfold_words
    rw [read_writes_unit hz2]
    simp only [View.readAt_eq_ld, View.readCov_unit_zero (S := S1) _ hz1, View.ld_unit_zero (S := S1) hz1, View.ld_unit_zero (S := S1x128) hz2, View.ld_unit_zero (S := S32x80) hz2, View.ld_unit_zero (S := S128x512) hz2, View.ld_unit_zero (S := S1x12000x128) hz3, e1, e2, e3, e4, e5, e6, e13, e14]
    try rfl
  isplitl [H13]
  · iexists _; isplitr; swap; (· iexact H13); ipureintro
    sl_unfold_words
    rw [read_writes_unit hz1]
    simp only [View.readAt_eq_ld, View.readCov_unit_zero (S := S1) _ hz1, View.ld_unit_zero (S := S1) hz1, View.ld_unit_zero (S := S1x128) hz2, View.ld_unit_zero (S := S32x80) hz2, View.ld_unit_zero (S := S128x512) hz2, View.ld_unit_zero (S := S1x12000x128) hz3, e1, e2, e3, e4, e5, e6, e13, e14]
    try rfl
  · iexists _; isplitr; swap; (· iexact H14); ipureintro
    sl_unfold_words
    rw [read_writes_unit hz1]
    simp only [View.readAt_eq_ld, View.readCov_unit_zero (S := S1) _ hz1, View.ld_unit_zero (S := S1) hz1, View.ld_unit_zero (S := S1x128) hz2, View.ld_unit_zero (S := S32x80) hz2, View.ld_unit_zero (S := S128x512) hz2, View.ld_unit_zero (S := S1x12000x128) hz3, e1, e2, e3, e4, e5, e6, e13, e14]
    try rfl

end Cert.Proof.Tc

end
-- ==== Proof.Tc.Data.lean ====
/-
  The TensorCore pipeline: what its two running sums hold before each grid point, what it leaves in each window, and
  what each window holds when the body runs.
-/
module

public import proofs.«01_k».proof.Proof.Tc.Body

@[expose] public section

noncomputable section

namespace Cert.Proof.Tc

open Cert.Proof.Sc
open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.Pipeline (Dat Cfg Window BodyObligation)

variable {F : FTy → Type} [FloatOps F]

local notation "𝕄" => MT nD τ sig (HIx 1) (Elt F) ℕ UU ℕ

theorem set_owns (c : Dev nD) {sp : Space} {s : Shape} {e : EltTy} {M : Memref sig .tc sp s e} (h : M.IsWhole) (X : s.Idx → Elt F e) :
    (owns (SparseCore.T c) M fullShare X : sProp 𝕄) = ow c M X := by
  unfold owns ow; rw [h.set_eq_univ]

theorem cond1_iff : ∀ t : Fin cfg1.N, k1_cond1 (grid1.coords t) = 1#1 ↔ t.val = 0 := (by decide : ∀ t : Fin grid1.N, k1_cond1 (grid1.coords t) = 1#1 ↔ t.val = 0)
theorem cond2_iff : ∀ t : Fin cfg1.N, k1_cond2 (grid1.coords t) = 1#1 ↔ t.val = 18 := (by decide : ∀ t : Fin grid1.N, k1_cond2 (grid1.coords t) = 1#1 ↔ t.val = 18)

variable (V : (c : Dev nD) → (b : Ref sig .tc) → Buf (Elt F) ((SparseCore.T c : Thread nD τ).loc b))

/-- Window `w`'s block at point `t`, of the arrays' contents at entry. -/
abbrev iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The two sums before point `n`: the weighted columns' and the count of valid entries. -/
def sums (c : Dev nD) : ℕ → F .f32 × F .f32
  | 0 => (zero, zero)
  | n + 1 => if h : n < cfg1.N then
      (k1_pay5 (grid1.coords ⟨n, h⟩) (iblk V c 0 ⟨n, h⟩) (iblk V c 2 ⟨n, h⟩) (iblk V c 1 ⟨n, h⟩) (sums c n).1,
       k1_pay6 (grid1.coords ⟨n, h⟩) (iblk V c 1 ⟨n, h⟩) (sums c n).2)
    else sums c n

theorem sums_succ (c : Dev nD) (t : Fin cfg1.N) : sums V c (t.val + 1) =
    (k1_pay5 (grid1.coords t) (iblk V c 0 t) (iblk V c 2 t) (iblk V c 1 t) (sums V c t.val).1,
     k1_pay6 (grid1.coords t) (iblk V c 1 t) (sums V c t.val).2) := by
  show (if h : t.val < cfg1.N then _ else _) = _
  rw [dif_pos t.isLt]

/-- The first and the last grid point. -/
abbrev tFirst : Fin cfg1.N := ⟨0, by rw [show cfg1.N = 19 from N_1]; decide⟩
abbrev tLast : Fin cfg1.N := ⟨18, by rw [show cfg1.N = 19 from N_1]; decide⟩

/-- The first result: the negated sum over the valid entries, over their number. -/
def ceOut (c : Dev nD) : F .f32 :=
  k1_pay1 (k1_pay2 (iblk V c 3 tLast) (iblk V c 4 tLast) (iblk V c 5 tLast) (sums V c 19).1) (sums V c 19).2
/-- The second result. -/
def klOut (c : Dev nD) : F .f32 := k1_pay4 (iblk V c 6 tFirst) (iblk V c 7 tFirst) (iblk V c 8 tFirst) (iblk V c 9 tFirst)

/-- What is held between the points: the two one-entry buffers of the sums, at anything before the first point. -/
def held (c : Dev nD) : ℕ → sProp 𝕄
  | 0 => Pipeline.scopedRest (Ix := HIx 1) (Name := ℕ) (U := UU) (Lvl := ℕ) (Val := Elt F) spec1 c
  | n + 1 => iprop(ow c (Memref.whole cc1_scratch0) (fun _ => (sums V c (n + 1)).1) ∗ ow c (Memref.whole cc1_scratch1) (fun _ => (sums V c (n + 1)).2))

variable (ε : Dev nD → Set (SemLoc sig × HIx 1))

/-- The pipeline's proof data, from the arrays' contents `V` and the waits `ε` recorded before it. -/
def dat (c : Dev nD) : Dat τ (Elt F) (HIx 1) ℕ UU ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => fun _ => ceOut V c
    | ⟨11, _⟩ => fun _ => klOut V c
  Φ t := held V c t.val
  q _ := fullShare
  owed _ := 0
  recorded _ := ε c

variable (c : Dev nD)

theorem before_0 (t : Fin cfg1.N) (d : (cfg1.win 0).block.Idx → Elt F (cfg1.win 0).elt) :
    (dat V ε c).before 0 t d = iblk V c 0 t :=
  (Dat.before_in_eq_fetched (dat V ε c) 0 rfl (fun _ => rfl) (fun _ _ _ => rfl) (fun _ => by dsimp only [dat]; rfl) t d).trans rfl
theorem before_1 (t : Fin cfg1.N) (d : (cfg1.win 1).block.Idx → Elt F (cfg1.win 1).elt) :
    (dat V ε c).before 1 t d = iblk V c 1 t :=
  (Dat.before_in_eq_fetched (dat V ε c) 1 rfl (fun _ => rfl) (fun _ _ _ => rfl) (fun _ => by dsimp only [dat]; rfl) t d).trans rfl
theorem before_2 (t : Fin cfg1.N) (d : (cfg1.win 2).block.Idx → Elt F (cfg1.win 2).elt) :
    (dat V ε c).before 2 t d = iblk V c 2 t :=
  (Dat.before_in_eq_fetched (dat V ε c) 2 rfl (fun _ => rfl) (fun _ _ _ => rfl) (fun _ => by dsimp only [dat]; rfl) t d).trans rfl
theorem before_3 (t : Fin cfg1.N) (d : (cfg1.win 3).block.Idx → Elt F (cfg1.win 3).elt) :
    (dat V ε c).before 3 t d = iblk V c 3 t :=
  (Dat.before_in_eq_fetched (dat V ε c) 3 rfl (fun _ => rfl) (fun _ _ _ => rfl) (fun _ => by dsimp only [dat]; rfl) t d).trans rfl
theorem before_4 (t : Fin cfg1.N) (d : (cfg1.win 4).block.Idx → Elt F (cfg1.win 4).elt) :
    (dat V ε c).before 4 t d = iblk V c 4 t :=
  (Dat.before_in_eq_fetched (dat V ε c) 4 rfl (fun _ => rfl) (fun _ _ _ => rfl) (fun _ => by dsimp only [dat]; rfl) t d).trans rfl
theorem before_5 (t : Fin cfg1.N) (d : (cfg1.win 5).block.Idx → Elt F (cfg1.win 5).elt) :
    (dat V ε c).before 5 t d = iblk V c 5 t :=
  (Dat.before_in_eq_fetched (dat V ε c) 5 rfl (fun _ => rfl) (fun _ _ _ => rfl) (fun _ => by dsimp only [dat]; rfl) t d).trans rfl
theorem before_6 (t : Fin cfg1.N) (d : (cfg1.win 6).block.Idx → Elt F (cfg1.win 6).elt) :
    (dat V ε c).before 6 t d = iblk V c 6 t :=
  (Dat.before_in_eq_fetched (dat V ε c) 6 rfl (fun _ => rfl) (fun _ _ _ => rfl) (fun _ => by dsimp only [dat]; rfl) t d).trans rfl
theorem before_7 (t : Fin cfg1.N) (d : (cfg1.win 7).block.Idx → Elt F (cfg1.win 7).elt) :
    (dat V ε c).before 7 t d = iblk V c 7 t :=
  (Dat.before_in_eq_fetched (dat V ε c) 7 rfl (fun _ => rfl) (fun _ _ _ => rfl) (fun _ => by dsimp only [dat]; rfl) t d).trans rfl
theorem before_8 (t : Fin cfg1.N) (d : (cfg1.win 8).block.Idx → Elt F (cfg1.win 8).elt) :
    (dat V ε c).before 8 t d = iblk V c 8 t :=
  (Dat.before_in_eq_fetched (dat V ε c) 8 rfl (fun _ => rfl) (fun _ _ _ => rfl) (fun _ => by dsimp only [dat]; rfl) t d).trans rfl
theorem before_9 (t : Fin cfg1.N) (d : (cfg1.win 9).block.Idx → Elt F (cfg1.win 9).elt) :
    (dat V ε c).before 9 t d = iblk V c 9 t :=
  (Dat.before_in_eq_fetched (dat V ε c) 9 rfl (fun _ => rfl) (fun _ _ _ => rfl) (fun _ => by dsimp only [dat]; rfl) t d).trans rfl

theorem left_11 (t : Fin cfg1.N) (ht : t.val = 0) (d : (cfg1.win 11).block.Idx → Elt F (cfg1.win 11).elt) :
    (dat V ε c).left 11 t d = fun _ => klOut V c := by
  have hi : cfg1.idle 11 (cfg1.grid.coords t) = false := by
    show (!(k1_cond1 (grid1.coords t) == 1#1)) = false
    rw [(cond1_iff t).mpr ht]; rfl
  unfold Dat.left; rw [hi]; dsimp only [Dat.kept, dat]; rfl

/-- The second result's buffer holds it from the second point on. -/
theorem before_11 : ∀ (n : ℕ) (h : n + 1 < cfg1.N) (d : (cfg1.win 11).block.Idx → Elt F (cfg1.win 11).elt),
    (dat V ε c).before 11 ⟨n + 1, h⟩ d = fun _ => klOut V c := by
  have hN : cfg1.N = 19 := N_1
  intro n
  induction n with
  | zero =>
    intro h d
    rw [Dat.before_of_pos _ 11 ⟨0 + 1, h⟩ (Nat.succ_ne_zero 0) rfl, if_neg (by rw [flush1_11]; exact (by decide : ¬ (0 + 1 - 1) % 19 = 18))]
    exact left_11 V ε c _ rfl d
  | succ n ih =>
    intro h d
    have hlt : n + 1 < cfg1.N := by omega
    rw [Dat.before_of_pos _ 11 ⟨n + 2, h⟩ (by simp) rfl, if_neg (by rw [flush1_11]; show ¬ (n + 2 - 1) % 19 = 18; omega)]
    have hi : cfg1.idle 11 (cfg1.grid.coords ⟨n + 1, hlt⟩) = true := by
      show (!(k1_cond1 (grid1.coords ⟨n + 1, hlt⟩) == 1#1)) = true
      have : ¬ k1_cond1 (grid1.coords ⟨n + 1, hlt⟩) = 1#1 := by rw [cond1_iff ⟨n + 1, hlt⟩]; simp
      simp [this]
    show (dat V ε c).left 11 ⟨n + 1, hlt⟩ d = _
    unfold Dat.left; rw [hi]; exact ih hlt d

end Cert.Proof.Tc

end
-- ==== Proof.Tc.Region.lean ====
/-
  The TensorCore pipeline's body at every grid point, against its proof data.
-/
module

public import proofs.«01_k».proof.Proof.Tc.Data

@[expose] public section

noncomputable section

namespace Cert.Proof.Tc

open Cert.Proof.Sc
open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.Pipeline (Dat Cfg Window BodyObligation)

variable {F : FTy → Type} [FloatOps F]

local notation "𝕄" => MT nD τ sig (HIx 1) (Elt F) ℕ UU ℕ

variable (V : (c : Dev nD) → (b : Ref sig .tc) → Buf (Elt F) ((SparseCore.T c : Thread nD τ).loc b))
  (ε : Dev nD → Set (SemLoc sig × HIx 1)) (c : Dev nD)

theorem idle_10 (t : Fin cfg1.N) : cfg1.idle 10 (cfg1.grid.coords t) = !decide (t.val = 18) := by
  show (!(k1_cond2 (grid1.coords t) == 1#1)) = _
  rw [Bool.not_inj_iff, Bool.eq_iff_iff]; simp [cond2_iff t]
theorem idle_11 (t : Fin cfg1.N) : cfg1.idle 11 (cfg1.grid.coords t) = !decide (t.val = 0) := by
  show (!(k1_cond1 (grid1.coords t) == 1#1)) = _
  rw [Bool.not_inj_iff, Bool.eq_iff_iff]; simp [cond1_iff t]
theorem flush_10 (t : Fin cfg1.N) : (cfg1.win 10).flush t = decide (t.val = 18) := by
  have hN : cfg1.N = 19 := N_1
  have := t.isLt
  rw [Bool.eq_iff_iff, flush1_10, decide_eq_true_iff]; omega
theorem flush_11 (t : Fin cfg1.N) : (cfg1.win 11).flush t = decide (t.val = 18) := by
  have hN : cfg1.N = 19 := N_1
  have := t.isLt
  rw [Bool.eq_iff_iff, flush1_11, decide_eq_true_iff]; omega

/-- What the body must leave in an input window. -/
theorem leave_10_mid (t : Fin cfg1.N) (h : t.val ≠ 18) :
    (dat V ε c).leavesExact 10 t = iprop(∃ d, owns (SparseCore.T c) ((cfg1.win 10).stage (cfg1.slots t 10)) fullShare ((dat V ε c).before 10 t d)) :=
  Dat.leavesExact_idle _ 10 t (by rw [idle_10]; simp [h]) (by rw [flush_10]; simp [h])
theorem leave_11_mid (t : Fin cfg1.N) (h0 : t.val ≠ 0) (h : t.val ≠ 18) :
    (dat V ε c).leavesExact 11 t = iprop(∃ d, owns (SparseCore.T c) ((cfg1.win 11).stage (cfg1.slots t 11)) fullShare ((dat V ε c).before 11 t d)) :=
  Dat.leavesExact_idle _ 11 t (by rw [idle_11]; simp [h0]) (by rw [flush_11]; simp [h])

theorem takes_0 (t : Fin cfg1.N) :
    (iprop(∃ d, owns (SparseCore.T c) ((cfg1.win 0).stage (cfg1.slots t 0)) fullShare ((dat V ε c).before 0 t d)) : sProp 𝕄)
      ⊢ ow c (st1_0 t) (iblk V c 0 t) := by
  exact exists_elim fun d => Entails.of_eq (by rw [before_0]; exact set_owns c (stage_whole1 0 _) _)
theorem leaves_0 (t : Fin cfg1.N) : (dat V ε c).leavesExact 0 t = ow c (st1_0 t) (iblk V c 0 t) :=
  (show (dat V ε c).leavesExact 0 t = owns (SparseCore.T c) (st1_0 t) fullShare ((dat V ε c).after 0 t) from rfl).trans
    ((set_owns c (stage_whole1 0 _) _).trans (by dsimp only [dat]))
theorem takes_1 (t : Fin cfg1.N) :
    (iprop(∃ d, owns (SparseCore.T c) ((cfg1.win 1).stage (cfg1.slots t 1)) fullShare ((dat V ε c).before 1 t d)) : sProp 𝕄)
      ⊢ ow c (st1_1 t) (iblk V c 1 t) := by
  exact exists_elim fun d => Entails.of_eq (by rw [before_1]; exact set_owns c (stage_whole1 1 _) _)
theorem leaves_1 (t : Fin cfg1.N) : (dat V ε c).leavesExact 1 t = ow c (st1_1 t) (iblk V c 1 t) :=
  (show (dat V ε c).leavesExact 1 t = owns (SparseCore.T c) (st1_1 t) fullShare ((dat V ε c).after 1 t) from rfl).trans
    ((set_owns c (stage_whole1 1 _) _).trans (by dsimp only [dat]))
theorem takes_2 (t : Fin cfg1.N) :
    (iprop(∃ d, owns (SparseCore.T c) ((cfg1.win 2).stage (cfg1.slots t 2)) fullShare ((dat V ε c).before 2 t d)) : sProp 𝕄)
      ⊢ ow c (st1_2 t) (iblk V c 2 t) := by
  exact exists_elim fun d => Entails.of_eq (by rw [before_2]; exact set_owns c (stage_whole1 2 _) _)
theorem leaves_2 (t : Fin cfg1.N) : (dat V ε c).leavesExact 2 t = ow c (st1_2 t) (iblk V c 2 t) :=
  (show (dat V ε c).leavesExact 2 t = owns (SparseCore.T c) (st1_2 t) fullShare ((dat V ε c).after 2 t) from rfl).trans
    ((set_owns c (stage_whole1 2 _) _).trans (by dsimp only [dat]))
theorem takes_3 (t : Fin cfg1.N) :
    (iprop(∃ d, owns (SparseCore.T c) ((cfg1.win 3).stage (cfg1.slots t 3)) fullShare ((dat V ε c).before 3 t d)) : sProp 𝕄)
      ⊢ ow c (st1_3 t) (iblk V c 3 t) := by
  exact exists_elim fun d => Entails.of_eq (by rw [before_3]; exact set_owns c (stage_whole1 3 _) _)
theorem leaves_3 (t : Fin cfg1.N) : (dat V ε c).leavesExact 3 t = ow c (st1_3 t) (iblk V c 3 t) :=
  (show (dat V ε c).leavesExact 3 t = owns (SparseCore.T c) (st1_3 t) fullShare ((dat V ε c).after 3 t) from rfl).trans
    ((set_owns c (stage_whole1 3 _) _).trans (by dsimp only [dat]))
theorem takes_4 (t : Fin cfg1.N) :
    (iprop(∃ d, owns (SparseCore.T c) ((cfg1.win 4).stage (cfg1.slots t 4)) fullShare ((dat V ε c).before 4 t d)) : sProp 𝕄)
      ⊢ ow c (st1_4 t) (iblk V c 4 t) := by
  exact exists_elim fun d => Entails.of_eq (by rw [before_4]; exact set_owns c (stage_whole1 4 _) _)
theorem leaves_4 (t : Fin cfg1.N) : (dat V ε c).leavesExact 4 t = ow c (st1_4 t) (iblk V c 4 t) :=
  (show (dat V ε c).leavesExact 4 t = owns (SparseCore.T c) (st1_4 t) fullShare ((dat V ε c).after 4 t) from rfl).trans
    ((set_owns c (stage_whole1 4 _) _).trans (by dsimp only [dat]))
theorem takes_5 (t : Fin cfg1.N) :
    (iprop(∃ d, owns (SparseCore.T c) ((cfg1.win 5).stage (cfg1.slots t 5)) fullShare ((dat V ε c).before 5 t d)) : sProp 𝕄)
      ⊢ ow c (st1_5 t) (iblk V c 5 t) := by
  exact exists_elim fun d => Entails.of_eq (by rw [before_5]; exact set_owns c (stage_whole1 5 _) _)
theorem leaves_5 (t : Fin cfg1.N) : (dat V ε c).leavesExact 5 t = ow c (st1_5 t) (iblk V c 5 t) :=
  (show (dat V ε c).leavesExact 5 t = owns (SparseCore.T c) (st1_5 t) fullShare ((dat V ε c).after 5 t) from rfl).trans
    ((set_owns c (stage_whole1 5 _) _).trans (by dsimp only [dat]))
theorem takes_6 (t : Fin cfg1.N) :
    (iprop(∃ d, owns (SparseCore.T c) ((cfg1.win 6).stage (cfg1.slots t 6)) fullShare ((dat V ε c).before 6 t d)) : sProp 𝕄)
      ⊢ ow c (st1_6 t) (iblk V c 6 t) := by
  exact exists_elim fun d => Entails.of_eq (by rw [before_6]; exact set_owns c (stage_whole1 6 _) _)
theorem leaves_6 (t : Fin cfg1.N) : (dat V ε c).leavesExact 6 t = ow c (st1_6 t) (iblk V c 6 t) :=
  (show (dat V ε c).leavesExact 6 t = owns (SparseCore.T c) (st1_6 t) fullShare ((dat V ε c).after 6 t) from rfl).trans
    ((set_owns c (stage_whole1 6 _) _).trans (by dsimp only [dat]))
theorem takes_7 (t : Fin cfg1.N) :
    (iprop(∃ d, owns (SparseCore.T c) ((cfg1.win 7).stage (cfg1.slots t 7)) fullShare ((dat V ε c).before 7 t d)) : sProp 𝕄)
      ⊢ ow c (st1_7 t) (iblk V c 7 t) := by
  exact exists_elim fun d => Entails.of_eq (by rw [before_7]; exact set_owns c (stage_whole1 7 _) _)
theorem leaves_7 (t : Fin cfg1.N) : (dat V ε c).leavesExact 7 t = ow c (st1_7 t) (iblk V c 7 t) :=
  (show (dat V ε c).leavesExact 7 t = owns (SparseCore.T c) (st1_7 t) fullShare ((dat V ε c).after 7 t) from rfl).trans
    ((set_owns c (stage_whole1 7 _) _).trans (by dsimp only [dat]))
theorem takes_8 (t : Fin cfg1.N) :
    (iprop(∃ d, owns (SparseCore.T c) ((cfg1.win 8).stage (cfg1.slots t 8)) fullShare ((dat V ε c).before 8 t d)) : sProp 𝕄)
      ⊢ ow c (st1_8 t) (iblk V c 8 t) := by
  exact exists_elim fun d => Entails.of_eq (by rw [before_8]; exact set_owns c (stage_whole1 8 _) _)
theorem leaves_8 (t : Fin cfg1.N) : (dat V ε c).leavesExact 8 t = ow c (st1_8 t) (iblk V c 8 t) :=
  (show (dat V ε c).leavesExact 8 t = owns (SparseCore.T c) (st1_8 t) fullShare ((dat V ε c).after 8 t) from rfl).trans
    ((set_owns c (stage_whole1 8 _) _).trans (by dsimp only [dat]))
theorem takes_9 (t : Fin cfg1.N) :
    (iprop(∃ d, owns (SparseCore.T c) ((cfg1.win 9).stage (cfg1.slots t 9)) fullShare ((dat V ε c).before 9 t d)) : sProp 𝕄)
      ⊢ ow c (st1_9 t) (iblk V c 9 t) := by
  exact exists_elim fun d => Entails.of_eq (by rw [before_9]; exact set_owns c (stage_whole1 9 _) _)
theorem leaves_9 (t : Fin cfg1.N) : (dat V ε c).leavesExact 9 t = ow c (st1_9 t) (iblk V c 9 t) :=
  (show (dat V ε c).leavesExact 9 t = owns (SparseCore.T c) (st1_9 t) fullShare ((dat V ε c).after 9 t) from rfl).trans
    ((set_owns c (stage_whole1 9 _) _).trans (by dsimp only [dat]))
theorem takes_10 (t : Fin cfg1.N) :
    (iprop(∃ d, owns (SparseCore.T c) ((cfg1.win 10).stage (cfg1.slots t 10)) fullShare ((dat V ε c).before 10 t d)) : sProp 𝕄)
      ⊢ iprop(∃ X, ow c (st1_10 t) X) :=
  exists_elim fun d => (Entails.of_eq (set_owns c (stage_whole1 10 _) _)).trans (exists_intro _)
theorem takes_11 (t : Fin cfg1.N) :
    (iprop(∃ d, owns (SparseCore.T c) ((cfg1.win 11).stage (cfg1.slots t 11)) fullShare ((dat V ε c).before 11 t d)) : sProp 𝕄)
      ⊢ iprop(∃ X, ow c (st1_11 t) X) :=
  exists_elim fun d => (Entails.of_eq (set_owns c (stage_whole1 11 _) _)).trans (exists_intro _)
theorem leaves_10_last (t : Fin cfg1.N) (h : t.val = 18) : (dat V ε c).leavesExact 10 t = ow c (st1_10 t) (fun _ => ceOut V c) := by
  unfold Dat.leavesExact
  rw [idle_10, show (!decide (t.val = 18)) = false by simp [h]]
  exact (set_owns c (stage_whole1 10 _) _).trans (by dsimp only [dat])
theorem leaves_11_first (t : Fin cfg1.N) (h : t.val = 0) : (dat V ε c).leavesExact 11 t = ow c (st1_11 t) (fun _ => klOut V c) := by
  unfold Dat.leavesExact
  rw [idle_11, show (!decide (t.val = 0)) = false by simp [h]]
  exact (set_owns c (stage_whole1 11 _) _).trans (by dsimp only [dat])
theorem leaves_11_last (t : Fin cfg1.N) (h : t.val = 18) : (dat V ε c).leavesExact 11 t = ow c (st1_11 t) (fun _ => klOut V c) := by
  unfold Dat.leavesExact
  rw [idle_11, flush_11, show (!decide (t.val = 0)) = true by simp [h], show decide (t.val = 18) = true by simp [h]]
  exact (set_owns c (stage_whole1 11 _) _).trans (by dsimp only [dat])
theorem takes_11_last (t : Fin cfg1.N) (h : t.val = 18) :
    (iprop(∃ d, owns (SparseCore.T c) ((cfg1.win 11).stage (cfg1.slots t 11)) fullShare ((dat V ε c).before 11 t d)) : sProp 𝕄)
      ⊢ ow c (st1_11 t) (fun _ => klOut V c) := by
  obtain ⟨n, hn⟩ := t
  cases n with
  | zero => exact absurd h (by simp)
  | succ n => exact exists_elim fun d => Entails.of_eq (by rw [before_11]; exact set_owns c (stage_whole1 11 _) _)

theorem at_castSucc {α : Sort _} {N : ℕ} (S : ℕ → α) (t : Fin N) : S t.castSucc.val = S t.val := rfl
theorem at_succ {α : Sort _} {N : ℕ} (S : ℕ → α) (t : Fin N) : S t.succ.val = S (t.val + 1) := rfl
theorem Φ_castSucc (t : Fin cfg1.N) : (dat V ε c).Φ t.castSucc = held V c t.val := by dsimp only [dat]; exact at_castSucc (held V c) t
theorem Φ_succ (t : Fin cfg1.N) : (dat V ε c).Φ t.succ
    = iprop(ow c (Memref.whole cc1_scratch0) (fun _ => (sums V c (t.val + 1)).1) ∗ ow c (Memref.whole cc1_scratch1) (fun _ => (sums V c (t.val + 1)).2)) := by
  dsimp only [dat]; exact at_succ (held V c) t
theorem held_pos (n : ℕ) (h : n ≠ 0) : held V c n
    = iprop(ow c (Memref.whole cc1_scratch0) (fun _ => (sums V c n).1) ∗ ow c (Memref.whole cc1_scratch1) (fun _ => (sums V c n).2)) := by
  cases n with
  | zero => exact absurd rfl h
  | succ n => rfl
/-- A buffer held whole at some contents, read through its whole memref. -/
theorem ow_whole (b : Ref sig .tc) (f : Buf (Elt F) ((SparseCore.T c : Thread nD τ).loc b)) :
    (((SparseCore.T c : Thread nD τ).loc b) ↦{fullShare} f : sProp 𝕄) ⊢ ow c (Memref.whole b) f := by
  unfold ow; iintro H; iexists f; isplitr; swap; (· iexact H); ipureintro; rfl
theorem whole_ow (b : Ref sig .tc) (X : b.ty.shape.Idx → Elt F b.ty.elt) :
    (ow c (Memref.whole b) X : sProp 𝕄) ⊢ ((SparseCore.T c : Thread nD τ).loc b) ↦{fullShare} X := by
  unfold ow; iintro ⟨%f, %hf, H⟩
  obtain rfl : f = X := hf
  iexact H

set_option maxHeartbeats 1600000 in
theorem body_obligation : BodyObligation (dat V ε c) (defs₀ (F := F)) 𝒱₀ none Set.univ := fun t => by
  have hN : cfg1.N = 19 := N_1
  rw [show (dat V ε c).owesAt none t.succ = (dat V ε c).owesAt none t.castSucc from rfl]
  change _ ⊢ wp frame _ _ (bodyAt1 t) fun _ => iprop((dat V ε c).Φ t.succ ∗ (dat V ε c).owesAt none t.castSucc ∗ bigSep Finset.univ fun w => (dat V ε c).leavesExact w t)
  rw [bigSep_W1, bigSep_W1]
  rw [Φ_castSucc, Φ_succ, sums_succ]
  simp only [leaves_0, leaves_1, leaves_2, leaves_3, leaves_4, leaves_5, leaves_6, leaves_7, leaves_8, leaves_9]
  by_cases h0 : t.val = 0
  · have ht : t = tFirst := Fin.ext h0
    rw [leave_10_mid V ε c t (by omega), leaves_11_first V ε c t h0, h0]
    rw [show held V c 0 = _ from scopedRest1_eq (Ix := HIx 1) (Name := ℕ) (U := UU) (Lvl := ℕ) (Val := Elt F) c]
    iintro ⟨HΦ, Howes, G0, G1, G2, G3, G4, G5, G6, G7, G8, G9, G10, G11⟩
    ihave H0 := (takes_0 V ε c t) $$ G0
    ihave H1 := (takes_1 V ε c t) $$ G1
    ihave H2 := (takes_2 V ε c t) $$ G2
    ihave H3 := (takes_3 V ε c t) $$ G3
    ihave H4 := (takes_4 V ε c t) $$ G4
    ihave H5 := (takes_5 V ε c t) $$ G5
    ihave H6 := (takes_6 V ε c t) $$ G6
    ihave H7 := (takes_7 V ε c t) $$ G7
    ihave H8 := (takes_8 V ε c t) $$ G8
    ihave H9 := (takes_9 V ε c t) $$ G9
    icases HΦ with ⟨⟨%fa, HA⟩, ⟨%fc, HC⟩⟩
    ihave HA := (ow_whole c cc1_scratch0 fa) $$ HA
    ihave HC := (ow_whole c cc1_scratch1 fc) $$ HC
    ihave G11 := (takes_11 V ε c t) $$ G11
    icases G11 with ⟨%d11, H11⟩
    iapply (body_first c (grid1.coords t) _ (hstage1_0 ((cfg1.slots t 0).cast nbuf1_0)) _ (hstage1_1 ((cfg1.slots t 1).cast nbuf1_1)) _ (hstage1_2 ((cfg1.slots t 2).cast nbuf1_2)) _ (hstage1_3 ((cfg1.slots t 3).cast nbuf1_3)) _ (hstage1_4 ((cfg1.slots t 4).cast nbuf1_4)) _ (hstage1_5 ((cfg1.slots t 5).cast nbuf1_5)) _ (hstage1_6 ((cfg1.slots t 6).cast nbuf1_6)) _ (hstage1_7 ((cfg1.slots t 7).cast nbuf1_7)) _ (hstage1_8 ((cfg1.slots t 8).cast nbuf1_8)) _ (hstage1_9 ((cfg1.slots t 9).cast nbuf1_9)) _ (hstage1_10 ((cfg1.slots t 10).cast nbuf1_10)) _ (hstage1_11 ((cfg1.slots t 11).cast nbuf1_11)) _ (Memref.isWhole_whole _) _ (Memref.isWhole_whole _) ((cond1_iff t).mpr h0) (fun h => by have := (cond2_iff t).mp h; omega) _ _ _ _ _ _ _ _ _ _ _)
    isplitl [H0]; · iexact H0
    isplitl [H1]; · iexact H1
    isplitl [H2]; · iexact H2
    isplitl [H6]; · iexact H6
    isplitl [H7]; · iexact H7
    isplitl [H8]; · iexact H8
    isplitl [H9]; · iexact H9
    isplitl [H11]; · iexact H11
    isplitl [HA]; · iexact HA
    isplitl [HC]; · iexact HC
    iintro ⟨H0, H1, H2, H6, H7, H8, H9, H11, HA, HC⟩
    isplitl [HA HC]
    · isplitl [HA]; · iexact HA
      iexact HC
    isplitl [Howes]; · iexact Howes
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [G10]; · iexact G10
    subst ht; iexact H11
  rw [held_pos V c _ h0]
  by_cases h18 : t.val = 18
  · have ht : t = tLast := Fin.ext h18
    rw [leaves_10_last V ε c t h18, leaves_11_last V ε c t h18]
    iintro ⟨HΦ, Howes, G0, G1, G2, G3, G4, G5, G6, G7, G8, G9, G10, G11⟩
    ihave H0 := (takes_0 V ε c t) $$ G0
    ihave H1 := (takes_1 V ε c t) $$ G1
    ihave H2 := (takes_2 V ε c t) $$ G2
    ihave H3 := (takes_3 V ε c t) $$ G3
    ihave H4 := (takes_4 V ε c t) $$ G4
    ihave H5 := (takes_5 V ε c t) $$ G5
    ihave H6 := (takes_6 V ε c t) $$ G6
    ihave H7 := (takes_7 V ε c t) $$ G7
    ihave H8 := (takes_8 V ε c t) $$ G8
    ihave H9 := (takes_9 V ε c t) $$ G9
    icases HΦ with ⟨HA, HC⟩
    ihave H11 := (takes_11_last V ε c t h18) $$ G11
    ihave G10 := (takes_10 V ε c t) $$ G10
    icases G10 with ⟨%d10, H10⟩
    iapply (body_last c (grid1.coords t) _ (hstage1_0 ((cfg1.slots t 0).cast nbuf1_0)) _ (hstage1_1 ((cfg1.slots t 1).cast nbuf1_1)) _ (hstage1_2 ((cfg1.slots t 2).cast nbuf1_2)) _ (hstage1_3 ((cfg1.slots t 3).cast nbuf1_3)) _ (hstage1_4 ((cfg1.slots t 4).cast nbuf1_4)) _ (hstage1_5 ((cfg1.slots t 5).cast nbuf1_5)) _ (hstage1_6 ((cfg1.slots t 6).cast nbuf1_6)) _ (hstage1_7 ((cfg1.slots t 7).cast nbuf1_7)) _ (hstage1_8 ((cfg1.slots t 8).cast nbuf1_8)) _ (hstage1_9 ((cfg1.slots t 9).cast nbuf1_9)) _ (hstage1_10 ((cfg1.slots t 10).cast nbuf1_10)) _ (hstage1_11 ((cfg1.slots t 11).cast nbuf1_11)) _ (Memref.isWhole_whole _) _ (Memref.isWhole_whole _) (fun h => h0 ((cond1_iff t).mp h)) ((cond2_iff t).mpr h18) _ _ _ _ _ _ _ _ _ _)
    isplitl [H0]; · iexact H0
    isplitl [H1]; · iexact H1
    isplitl [H2]; · iexact H2
    isplitl [H3]; · iexact H3
    isplitl [H4]; · iexact H4
    isplitl [H5]; · iexact H5
    isplitl [H10]; · iexact H10
    isplitl [HA]; · iexact HA
    isplitl [HC]; · iexact HC
    iintro ⟨H0, H1, H2, H3, H4, H5, H10, HA, HC⟩
    isplitl [HA HC]
    · isplitl [HA]; · iexact HA
      iexact HC
    isplitl [Howes]; · iexact Howes
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · have hs := sums_succ V c t
      rw [show t.val + 1 = 19 by omega] at hs
      unfold ceOut; rw [hs]; subst ht; iexact H10
    iexact H11
  · rw [leave_10_mid V ε c t h18, leave_11_mid V ε c t h0 h18]
    iintro ⟨HΦ, Howes, G0, G1, G2, G3, G4, G5, G6, G7, G8, G9, G10, G11⟩
    ihave H0 := (takes_0 V ε c t) $$ G0
    ihave H1 := (takes_1 V ε c t) $$ G1
    ihave H2 := (takes_2 V ε c t) $$ G2
    ihave H3 := (takes_3 V ε c t) $$ G3
    ihave H4 := (takes_4 V ε c t) $$ G4
    ihave H5 := (takes_5 V ε c t) $$ G5
    ihave H6 := (takes_6 V ε c t) $$ G6
    ihave H7 := (takes_7 V ε c t) $$ G7
    ihave H8 := (takes_8 V ε c t) $$ G8
    ihave H9 := (takes_9 V ε c t) $$ G9
    icases HΦ with ⟨HA, HC⟩
    iapply (body_mid c (grid1.coords t) _ (hstage1_0 ((cfg1.slots t 0).cast nbuf1_0)) _ (hstage1_1 ((cfg1.slots t 1).cast nbuf1_1)) _ (hstage1_2 ((cfg1.slots t 2).cast nbuf1_2)) _ (hstage1_3 ((cfg1.slots t 3).cast nbuf1_3)) _ (hstage1_4 ((cfg1.slots t 4).cast nbuf1_4)) _ (hstage1_5 ((cfg1.slots t 5).cast nbuf1_5)) _ (hstage1_6 ((cfg1.slots t 6).cast nbuf1_6)) _ (hstage1_7 ((cfg1.slots t 7).cast nbuf1_7)) _ (hstage1_8 ((cfg1.slots t 8).cast nbuf1_8)) _ (hstage1_9 ((cfg1.slots t 9).cast nbuf1_9)) _ (hstage1_10 ((cfg1.slots t 10).cast nbuf1_10)) _ (hstage1_11 ((cfg1.slots t 11).cast nbuf1_11)) _ (Memref.isWhole_whole _) _ (Memref.isWhole_whole _) (fun h => h0 ((cond1_iff t).mp h)) (fun h => h18 ((cond2_iff t).mp h)) _ _ _ _ _ _)
    isplitl [H0]; · iexact H0
    isplitl [H1]; · iexact H1
    isplitl [H2]; · iexact H2
    isplitl [HA]; · iexact HA
    isplitl [HC]; · iexact HC
    iintro ⟨H0, H1, H2, HA, HC⟩
    isplitl [HA HC]
    · isplitl [HA]; · iexact HA
      iexact HC
    isplitl [Howes]; · iexact Howes
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [G10]; · iexact G10
    iexact G11

end Cert.Proof.Tc

end
-- ==== Proof.Tc.Entry.lean ====
/-
  The TensorCore's region: what its two result arrays hold after it, and the record of its entry and exit.
-/
module

public import proofs.«01_k».proof.Proof.Tc.Region
public import Idealize.ShloMosaic.Lib.Pipeline.ValueKit.Geometry
public import Idealize.ShloMosaic.Lib.Pipeline.RegionsLoop

@[expose] public section

noncomputable section

namespace Cert.Proof.Tc

open Cert.Proof.Sc
open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.Pipeline (Dat Cfg Window BodyObligation)

variable {F : FTy → Type} [FloatOps F]

local notation "𝕄" => MT nD τ sig (HIx 1) (Elt F) ℕ UU ℕ

variable (V : (c : Dev nD) → (b : Ref sig .tc) → Buf (Elt F) ((SparseCore.T c : Thread nD τ).loc b))
  (ε : Dev nD → Set (SemLoc sig × HIx 1)) (c : Dev nD)

/-- The first result array after the region: its one entry is the cross entropy. -/
theorem final_10 : (dat V ε c).arrAt 10 cfg1.N = fun _ => ceOut V c :=
  Pipeline.Dat.arrAt_eq_of_covers (dat V ε c) 10 (fun _ => ceOut V c) (by decide +kernel) (fun t hf y => by dsimp only [dat]; rfl) (arr_whole1 10)

/-- The second result array after the region. -/
theorem final_11 : (dat V ε c).arrAt 11 cfg1.N = fun _ => klOut V c :=
  Pipeline.Dat.arrAt_eq_of_covers (dat V ε c) 11 (fun _ => klOut V c) (by decide +kernel) (fun t hf y => by dsimp only [dat]; rfl) (arr_whole1 11)

variable (adm : (p : Fin 1) → (pcfgs (F := F) p).Adm)

/-- The proof data of the one region of the program. -/
def pdats : (p : Fin 1) → (c : Dev nD) → Dat τ (Elt F) (HIx 1) ℕ UU ℕ (Pipeline.pin (pcfgs (F := F)) adm p) c
  | ⟨0, _⟩ => fun c => dat V ε c

variable (Vp : (c : Dev nD) → (b : Ref sig .tc) → Buf (Elt F) ((SparseCore.T c : Thread nD τ).loc b))

/-- The scratch buffers after the last point are among the scoped rest. -/
theorem held_last : held V c 19 ⊢ Pipeline.scopedRest (Ix := HIx 1) (Name := ℕ) (U := UU) (Lvl := ℕ) (Val := Elt F) spec1 c := by
  rw [held_pos V c 19 (by decide), scopedRest1_eq (Ix := HIx 1) (Name := ℕ) (U := UU) (Lvl := ℕ) (Val := Elt F) c]
  iintro ⟨HA, HC⟩
  ihave HA := (whole_ow c cc1_scratch0 _) $$ HA
  ihave HC := (whole_ow c cc1_scratch1 _) $$ HC
  isplitl [HA]
  · iexists _; iexact HA
  · iexists _; iexact HC

set_option backward.isDefEq.respectTransparency.types false in
/-- The region entered from every unscoped buffer at `V` and left with them at `Vp`: the two results written, the
    rest unchanged. -/
def reg (R : Dev nD → sProp 𝕄) (hVp_ce : ∀ c, Vp c main_v29_0 = fun _ => ceOut V c) (hVp_kl : ∀ c, Vp c main_v29_1 = fun _ => klOut V c)
    (hVp_ne : ∀ c (b : Ref sig .tc), b ≠ main_v29_0 → b ≠ main_v29_1 → Vp c b = V c b) :
    Pipeline.RegionSeg (pcfgs (F := F)) adm (pdats V ε adm) none defs₀ 𝒱₀ (Sc.K (F := F)).L (Sc.K (F := F)).lev 0 where
  win := launch1.win.to₀
  block_pos := launch1.block_pos
  stage_whole := launch1.stage_whole
  K := PEmpty
  osem k := k.elim
  ho := Pipeline.OwnSemFacts.none _
  hbody c := (body_obligation V ε c).loose
  hwaits := Pipeline.hwaits_of_owed_zero _ _ _ _ (Sc.K (F := F)).L (Sc.K (F := F)).lev 0 fun _ _ => rfl
  pre c := iprop(unscopedBufs c (V c) ∗ R c ∗ ∃ W, ⌜∀ p ∈ W, p ∈ ε c⌝ ∗ owes (SparseCore.T c : Thread nD τ) (0 : CellTallies nD τ sig (HIx 1)) W)
  post c := iprop(unscopedBufs c (Vp c) ∗ R c ∗ ∃ W, ⌜∀ p ∈ W, p ∈ ε c ∨ p.2 = none⌝ ∗ owes (SparseCore.T c : Thread nD τ) (0 : CellTallies nD τ sig (HIx 1)) W)
  X _ := BI.emp
  Y _ := BI.emp
  Z c := iprop(Pipeline.unscopedRest (Ix := HIx 1) (Name := ℕ) (U := UU) (Lvl := ℕ) spec1 c (V c) ∗ R c)
  hentry c := by
    rw [Pipeline.ownSems0_none]
    have hsplit := Pipeline.arrays_of_unscopedBufs (p := 0) (pcfgs (F := F)) adm (pdats V ε adm) launch1.win launch1.arr_whole c
      ((pdats V ε adm 0 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    isplitl [Hrest] <;> iassumption
  hin c := by
    rw [show (pdats V ε adm 0 c).Φ 0 = held V c 0 from rfl,
      show held V c 0 = Pipeline.scopedRest (Ix := HIx 1) (Name := ℕ) (U := UU) (Lvl := ℕ) (Val := Elt F) spec1 c from rfl]
    iintro ⟨-, -, Hr⟩; iexact Hr
  hout c := by
    rw [Pipeline.ownSems0_none, show (pdats V ε adm 0 c).Φ (Fin.last _) = held V c 19 from rfl]
    iintro Hr
    ihave Hr := (held_last V c) $$ Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (pdats V ε adm) ((pdats V ε adm 0 c).share_full fun _ => rfl) (V c) (Vp c) ((pdats V ε adm 0 c).arrAt · cfg1.N)
      (fun w => by
        fin_cases w
        · exact ((pdats V ε adm 0 c).arrAt_in 0 rfl _).trans (hVp_ne c (Pipeline.arrRef spec1 0) (by decide) (by decide)).symm
        · exact ((pdats V ε adm 0 c).arrAt_in 1 rfl _).trans (hVp_ne c (Pipeline.arrRef spec1 1) (by decide) (by decide)).symm
        · exact ((pdats V ε adm 0 c).arrAt_in 2 rfl _).trans (hVp_ne c (Pipeline.arrRef spec1 2) (by decide) (by decide)).symm
        · exact ((pdats V ε adm 0 c).arrAt_in 3 rfl _).trans (hVp_ne c (Pipeline.arrRef spec1 3) (by decide) (by decide)).symm
        · exact ((pdats V ε adm 0 c).arrAt_in 4 rfl _).trans (hVp_ne c (Pipeline.arrRef spec1 4) (by decide) (by decide)).symm
        · exact ((pdats V ε adm 0 c).arrAt_in 5 rfl _).trans (hVp_ne c (Pipeline.arrRef spec1 5) (by decide) (by decide)).symm
        · exact ((pdats V ε adm 0 c).arrAt_in 6 rfl _).trans (hVp_ne c (Pipeline.arrRef spec1 6) (by decide) (by decide)).symm
        · exact ((pdats V ε adm 0 c).arrAt_in 7 rfl _).trans (hVp_ne c (Pipeline.arrRef spec1 7) (by decide) (by decide)).symm
        · exact ((pdats V ε adm 0 c).arrAt_in 8 rfl _).trans (hVp_ne c (Pipeline.arrRef spec1 8) (by decide) (by decide)).symm
        · exact ((pdats V ε adm 0 c).arrAt_in 9 rfl _).trans (hVp_ne c (Pipeline.arrRef spec1 9) (by decide) (by decide)).symm
        · exact (final_10 V ε c).trans (hVp_ce c).symm
        · exact (final_11 V ε c).trans (hVp_kl c).symm)
      (fun b hb => hVp_ne c b (fun h => hb (h ▸ Finset.mem_image.mpr ⟨10, Finset.mem_univ _, rfl⟩)) (fun h => hb (h ▸ Finset.mem_image.mpr ⟨11, Finset.mem_univ _, rfl⟩)))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, %hW, HO⟩; iexists W; isplitr
    · ipureintro; intro p hp
      rcases hW hp with h | ⟨w, s, h⟩
      · exact Or.inl h
      · exact Or.inr (by rw [h])
    iexact HO

end Cert.Proof.Tc

end
-- ==== Proof.Host.Cut.lean ====
/-
  The TensorCore's program cut at its two kernel calls: the operations before them and after them, as lists.
-/
module

public import proofs.«01_k».proof.Proof.Tc.Entry
public import Idealize.ShloMosaic.Lib.StableHlo.Run

@[expose] public section

noncomputable section

namespace Cert.Proof.Host

open Cert.Proof.Sc Cert.Proof.Tc
open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- The operations before the first kernel call, in order. -/
abbrev opsA : List (HloOp τ sig (Elt F)) :=
  [ StableHlo.unary main_arg0 main_v0 ((transpose S19x12000x128 [1, 2, 0] · transposes_S128x19x12000_S19x12000x128_1_2_0) : (⟨S128x19x12000, .f32⟩ : BufTy).Contents (Elt F) → (⟨S19x12000x128, .f32⟩ : BufTy).Contents (Elt F)),
    StableHlo.reshape main_v0 main_v1 (rfl : (.f32 : EltTy) = .f32) shapeCasts_S19x12000x128_S29184000,
    StableHlo.reshape main_arg6 main_v2 (rfl : (.i32 : EltTy) = .i32) shapeCasts_S128_S1x128,
    StableHlo.reshape main_arg7 main_v3 (rfl : (.f32 : EltTy) = .f32) shapeCasts_S128_S1x128,
    StableHlo.unary main_arg5 main_v4 ((extractStridedSlice S128x19 ![0, 1] · slices_S128x20_S128x19_0_1) : (⟨S128x20, .i32⟩ : BufTy).Contents (Elt F) → (⟨S128x19, .i32⟩ : BufTy).Contents (Elt F)),
    StableHlo.nullary main_v5 (iotaInDim S128 32 0),
    StableHlo.unary main_v5 main_v6 (broadcastInDim S128x1 ![0] bcast_S128_S128x1_0 : (⟨S128, .i32⟩ : BufTy).Contents (Elt F) → (⟨S128x1, .i32⟩ : BufTy).Contents (Elt F)),
    StableHlo.nullary main_v7 (iotaInDim S19 32 0),
    StableHlo.unary main_v7 main_v8 (broadcastInDim S1x19 ![1] bcast_S19_S1x19_1 : (⟨S19, .i32⟩ : BufTy).Contents (Elt F) → (⟨S1x19, .i32⟩ : BufTy).Contents (Elt F)),
    StableHlo.nullary main_c (constantI S_ 32 1536000#32),
    StableHlo.unary main_c main_v9 (broadcastInDim S1x19 ![] bcast_S_S1x19 : (⟨S_, .i32⟩ : BufTy).Contents (Elt F) → (⟨S1x19, .i32⟩ : BufTy).Contents (Elt F)),
    StableHlo.binary main_v8 main_v9 main_v10 (muli : (⟨S1x19, .i32⟩ : BufTy).Contents (Elt F) → (⟨S1x19, .i32⟩ : BufTy).Contents (Elt F) → (⟨S1x19, .i32⟩ : BufTy).Contents (Elt F)),
    StableHlo.nullary main_c_0 (constantI S_ 32 128#32),
    StableHlo.unary main_c_0 main_v11 (broadcastInDim S128x19 ![] bcast_S_S128x19 : (⟨S_, .i32⟩ : BufTy).Contents (Elt F) → (⟨S128x19, .i32⟩ : BufTy).Contents (Elt F)),
    StableHlo.binary main_v4 main_v11 main_v12 (muli : (⟨S128x19, .i32⟩ : BufTy).Contents (Elt F) → (⟨S128x19, .i32⟩ : BufTy).Contents (Elt F) → (⟨S128x19, .i32⟩ : BufTy).Contents (Elt F)),
    StableHlo.unary main_v10 main_v13 (broadcastInDim S128x19 ![0, 1] bcast_S1x19_S128x19_0_1 : (⟨S1x19, .i32⟩ : BufTy).Contents (Elt F) → (⟨S128x19, .i32⟩ : BufTy).Contents (Elt F)),
    StableHlo.binary main_v13 main_v12 main_v14 (addi : (⟨S128x19, .i32⟩ : BufTy).Contents (Elt F) → (⟨S128x19, .i32⟩ : BufTy).Contents (Elt F) → (⟨S128x19, .i32⟩ : BufTy).Contents (Elt F)),
    StableHlo.unary main_v6 main_v15 (broadcastInDim S128x19 ![0, 1] bcast_S128x1_S128x19_0_1 : (⟨S128x1, .i32⟩ : BufTy).Contents (Elt F) → (⟨S128x19, .i32⟩ : BufTy).Contents (Elt F)),
    StableHlo.binary main_v14 main_v15 main_v16 (addi : (⟨S128x19, .i32⟩ : BufTy).Contents (Elt F) → (⟨S128x19, .i32⟩ : BufTy).Contents (Elt F) → (⟨S128x19, .i32⟩ : BufTy).Contents (Elt F)),
    StableHlo.reshape main_v16 main_v17 (rfl : (.i32 : EltTy) = .i32) shapeCasts_S128x19_S2432,
    StableHlo.reshape main_v17 main_v18 (rfl : (.i32 : EltTy) = .i32) shapeCasts_S2432_S32x76,
    StableHlo.nullary main_c_1 (constantI S_ 32 0#32),
    StableHlo.TRef.unary (StableHlo.TRef.of (T := ⟨S_, .i32⟩) main_c_1) (StableHlo.TRef.of (T := ⟨S_, .i32⟩) main_call0_v0) id,
    StableHlo.TRef.binary (StableHlo.TRef.of (T := ⟨S32x76, .i32⟩) main_v18) (StableHlo.TRef.of (T := ⟨S_, .i32⟩) main_call0_v0) (StableHlo.TRef.of (T := ⟨S32x80, .i32⟩) main_v19) (fun x v => pad S32x80 ![0, 0] ![0, 4] ![0, 0] x v pads_S32x76_S32x80_000_040 h_S_),
    StableHlo.unary main_arg6 main_v20 (broadcastInDim S128x1 ![0] bcast_S128_S128x1_0 : (⟨S128, .i32⟩ : BufTy).Contents (Elt F) → (⟨S128x1, .i32⟩ : BufTy).Contents (Elt F)),
    StableHlo.unary main_v20 main_v21 (broadcastInDim S128x19 ![0, 1] bcast_S128x1_S128x19_0_1 : (⟨S128x1, .i32⟩ : BufTy).Contents (Elt F) → (⟨S128x19, .i32⟩ : BufTy).Contents (Elt F)),
    StableHlo.reshape main_v21 main_v22 (rfl : (.i32 : EltTy) = .i32) shapeCasts_S128x19_S32x76,
    StableHlo.nullary main_c_2 (constantI S_ 32 0#32),
    StableHlo.TRef.unary (StableHlo.TRef.of (T := ⟨S_, .i32⟩) main_c_2) (StableHlo.TRef.of (T := ⟨S_, .i32⟩) main_call1_v0) id,
    StableHlo.TRef.binary (StableHlo.TRef.of (T := ⟨S32x76, .i32⟩) main_v22) (StableHlo.TRef.of (T := ⟨S_, .i32⟩) main_call1_v0) (StableHlo.TRef.of (T := ⟨S32x80, .i32⟩) main_v23) (fun x v => pad S32x80 ![0, 0] ![0, 4] ![0, 0] x v pads_S32x76_S32x80_000_040 h_S_),
    StableHlo.unary main_arg7 main_v24 (broadcastInDim S128x1 ![0] bcast_S128_S128x1_0 : (⟨S128, .f32⟩ : BufTy).Contents (Elt F) → (⟨S128x1, .f32⟩ : BufTy).Contents (Elt F)),
    StableHlo.unary main_v24 main_v25 (broadcastInDim S128x19 ![0, 1] bcast_S128x1_S128x19_0_1 : (⟨S128x1, .f32⟩ : BufTy).Contents (Elt F) → (⟨S128x19, .f32⟩ : BufTy).Contents (Elt F)),
    StableHlo.reshape main_v25 main_v26 (rfl : (.f32 : EltTy) = .f32) shapeCasts_S128x19_S32x76,
    StableHlo.nullary main_c_3 (constantI S_ 32 0#32),
    StableHlo.TRef.unary (StableHlo.TRef.of (T := ⟨S_, .i32⟩) main_c_3) (StableHlo.TRef.of (T := ⟨S_, .f32⟩) main_call2_v0) (sitofp .f32),
    StableHlo.TRef.binary (StableHlo.TRef.of (T := ⟨S32x76, .f32⟩) main_v26) (StableHlo.TRef.of (T := ⟨S_, .f32⟩) main_call2_v0) (StableHlo.TRef.of (T := ⟨S32x80, .f32⟩) main_v27) (fun x v => pad S32x80 ![0, 0] ![0, 4] ![0, 0] x v pads_S32x76_S32x80_000_040 h_S_) ]

/-- The operations after the second kernel call. -/
abbrev opsB : List (HloOp τ sig (Elt F)) :=
  [ StableHlo.reshape main_v29_0 main_v30 (rfl : (.f32 : EltTy) = .f32) shapeCasts_S1x1_S_,
    StableHlo.reshape main_v29_1 main_v31 (rfl : (.f32 : EltTy) = .f32) shapeCasts_S1x1_S_ ]

set_option maxRecDepth 8192 in
set_option maxHeartbeats 4000000 in
theorem main_eq (d : Dev nD) : main (F := F) d
    = (StableHlo.seq opsA >>= fun _ => sc.run d 0 >>= fun _ =>
        Prog.lift (.customCall (SparseCore.inner (Pipeline.entry 0)) ()) >>= fun _ => StableHlo.seq opsB) := rfl

set_option maxRecDepth 8192 in
theorem opsA_tc : (opsA : List (HloOp τ sig (Elt F))).Forall fun op => op.bufs ⊆ StableHlo.tcRefs τ sig :=
  ⟨StableHlo.unary_bufs_sub .., StableHlo.reshape_bufs_sub .., StableHlo.reshape_bufs_sub .., StableHlo.reshape_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.unary_bufs_sub .., StableHlo.binary_bufs_sub .., StableHlo.reshape_bufs_sub .., StableHlo.reshape_bufs_sub .., StableHlo.nullary_bufs_sub .., StableHlo.unary_bufs_sub .., StableHlo.binary_bufs_sub .., StableHlo.unary_bufs_sub .., StableHlo.unary_bufs_sub .., StableHlo.reshape_bufs_sub .., StableHlo.nullary_bufs_sub .., StableHlo.unary_bufs_sub .., StableHlo.binary_bufs_sub .., StableHlo.unary_bufs_sub .., StableHlo.unary_bufs_sub .., StableHlo.reshape_bufs_sub .., StableHlo.nullary_bufs_sub .., StableHlo.unary_bufs_sub .., StableHlo.binary_bufs_sub ..⟩

set_option maxRecDepth 8192 in
theorem opsA_fresh : (opsA : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem opsA_sub : ∀ op ∈ (opsA : List (HloOp τ sig (Elt F))), op.bufs ⊆ Pipeline.ucRefs τ sig := fun op h =>
  Pipeline.sub_ucRefs op (List.forall_iff_forall_mem.mp opsA_tc op h)

theorem opsB_sub : ∀ op ∈ (opsB : List (HloOp τ sig (Elt F))), op.bufs ⊆ Pipeline.ucRefs τ sig := fun op h =>
  Pipeline.sub_ucRefs op (List.forall_iff_forall_mem.mp
    (show (opsB : List (HloOp τ sig (Elt F))).Forall fun op => op.bufs ⊆ StableHlo.tcRefs τ sig from ⟨StableHlo.reshape_bufs_sub .., StableHlo.reshape_bufs_sub ..⟩) op h)
theorem opsB_fresh : (opsB : List (HloOp τ sig (Elt F))).Forall fun op => op.fresh = ∅ := ⟨rfl, rfl⟩

/-! ### What the first operations leave -/

variable (W : Valuation τ sig (Elt F))

/-- The logits with the batch last. -/
def xOf (x : (⟨S128x19x12000, .f32⟩ : BufTy).Contents (Elt F)) : (⟨S19x12000x128, .f32⟩ : BufTy).Contents (Elt F) :=
  transpose S19x12000x128 [1, 2, 0] x transposes_S128x19x12000_S19x12000x128_1_2_0
/-- The same, flat: the table the gather reads. -/
def tabOf (x : (⟨S128x19x12000, .f32⟩ : BufTy).Contents (Elt F)) : (⟨S29184000, .f32⟩ : BufTy).Contents (Elt F) :=
  shapeCast S29184000 (xOf x) shapeCasts_S19x12000x128_S29184000
/-- The flat positions of the targets, before they are cut into rows. -/
def posOf (cap : (⟨S128x20, .i32⟩ : BufTy).Contents (Elt F)) : (⟨S128x19, .i32⟩ : BufTy).Contents (Elt F) :=
  addi (addi (broadcastInDim S128x19 ![0, 1] bcast_S1x19_S128x19_0_1
      (muli (broadcastInDim S1x19 ![1] bcast_S19_S1x19_1 (iotaInDim S19 32 0)) (broadcastInDim S1x19 ![] bcast_S_S1x19 (constantI S_ 32 1536000#32))))
    (muli (extractStridedSlice S128x19 ![0, 1] cap slices_S128x20_S128x19_0_1) (broadcastInDim S128x19 ![] bcast_S_S128x19 (constantI S_ 32 128#32))))
    (broadcastInDim S128x19 ![0, 1] bcast_S128x1_S128x19_0_1 (broadcastInDim S128x1 ![0] bcast_S128_S128x1_0 (iotaInDim S128 32 0)))
/-- The gather's indices: 32 rows of 76 positions, each padded to 80. -/
def ixOf (cap : (⟨S128x20, .i32⟩ : BufTy).Contents (Elt F)) : (⟨S32x80, .i32⟩ : BufTy).Contents (Elt F) :=
  pad S32x80 ![0, 0] ![0, 4] ![0, 0] (shapeCast S32x76 (shapeCast S2432 (posOf cap) shapeCasts_S128x19_S2432) shapeCasts_S2432_S32x76)
    (constantI S_ 32 0#32) pads_S32x76_S32x80_000_040 h_S_
/-- The lengths of the targets' sequences, laid out like the gather's rows. -/
def lensOf (l : (⟨S128, .i32⟩ : BufTy).Contents (Elt F)) : (⟨S32x80, .i32⟩ : BufTy).Contents (Elt F) :=
  pad S32x80 ![0, 0] ![0, 4] ![0, 0] (shapeCast S32x76 (broadcastInDim S128x19 ![0, 1] bcast_S128x1_S128x19_0_1 (broadcastInDim S128x1 ![0] bcast_S128_S128x1_0 l)) shapeCasts_S128x19_S32x76)
    (constantI S_ 32 0#32) pads_S32x76_S32x80_000_040 h_S_
/-- The weights of the targets' sequences, laid out like the gather's rows. -/
def wtsOf (w : (⟨S128, .f32⟩ : BufTy).Contents (Elt F)) : (⟨S32x80, .f32⟩ : BufTy).Contents (Elt F) :=
  pad S32x80 ![0, 0] ![0, 4] ![0, 0] (shapeCast S32x76 (broadcastInDim S128x19 ![0, 1] bcast_S128x1_S128x19_0_1 (broadcastInDim S128x1 ![0] bcast_S128_S128x1_0 w)) shapeCasts_S128x19_S32x76)
    (sitofp .f32 (constantI S_ 32 0#32)) pads_S32x76_S32x80_000_040 h_S_

theorem after_v0 : StableHlo.after opsA W (Proc.devRef .tc main_v0) = xOf (W (Proc.devRef .tc main_arg0)) := by
  simp only [opsA, StableHlo.TRef.binary, StableHlo.TRef.nullary, StableHlo.TRef.reshape, StableHlo.TRef.ternary, StableHlo.TRef.unary, StableHlo.TRef.toBuf, StableHlo.TRef.ofBuf, cast_eq]; after_results_simp <;> rfl
theorem after_v1 : StableHlo.after opsA W (Proc.devRef .tc main_v1) = tabOf (W (Proc.devRef .tc main_arg0)) := by
  simp only [opsA, StableHlo.TRef.binary, StableHlo.TRef.nullary, StableHlo.TRef.reshape, StableHlo.TRef.ternary, StableHlo.TRef.unary, StableHlo.TRef.toBuf, StableHlo.TRef.ofBuf, cast_eq]; after_results_simp <;> rfl
theorem after_v2 : StableHlo.after opsA W (Proc.devRef .tc main_v2) = shapeCast S1x128 (W (Proc.devRef .tc main_arg6)) shapeCasts_S128_S1x128 := by
  simp only [opsA, StableHlo.TRef.binary, StableHlo.TRef.nullary, StableHlo.TRef.reshape, StableHlo.TRef.ternary, StableHlo.TRef.unary, StableHlo.TRef.toBuf, StableHlo.TRef.ofBuf, cast_eq]; after_results_simp <;> rfl
theorem after_v3 : StableHlo.after opsA W (Proc.devRef .tc main_v3) = shapeCast S1x128 (W (Proc.devRef .tc main_arg7)) shapeCasts_S128_S1x128 := by
  simp only [opsA, StableHlo.TRef.binary, StableHlo.TRef.nullary, StableHlo.TRef.reshape, StableHlo.TRef.ternary, StableHlo.TRef.unary, StableHlo.TRef.toBuf, StableHlo.TRef.ofBuf, cast_eq]; after_results_simp <;> rfl
theorem after_v19 : StableHlo.after opsA W (Proc.devRef .tc main_v19) = ixOf (W (Proc.devRef .tc main_arg5)) := by
  simp only [opsA, StableHlo.TRef.binary, StableHlo.TRef.nullary, StableHlo.TRef.reshape, StableHlo.TRef.ternary, StableHlo.TRef.unary, StableHlo.TRef.toBuf, StableHlo.TRef.ofBuf, cast_eq]; after_results_simp <;> rfl
theorem after_v23 : StableHlo.after opsA W (Proc.devRef .tc main_v23) = lensOf (W (Proc.devRef .tc main_arg6)) := by
  simp only [opsA, StableHlo.TRef.binary, StableHlo.TRef.nullary, StableHlo.TRef.reshape, StableHlo.TRef.ternary, StableHlo.TRef.unary, StableHlo.TRef.toBuf, StableHlo.TRef.ofBuf, cast_eq]; after_results_simp <;> rfl
theorem after_v27 : StableHlo.after opsA W (Proc.devRef .tc main_v27) = wtsOf (W (Proc.devRef .tc main_arg7)) := by
  simp only [opsA, StableHlo.TRef.binary, StableHlo.TRef.nullary, StableHlo.TRef.reshape, StableHlo.TRef.ternary, StableHlo.TRef.unary, StableHlo.TRef.toBuf, StableHlo.TRef.ofBuf, cast_eq]; after_results_simp <;> rfl
theorem after_arg0 : StableHlo.after opsA W (Proc.devRef .tc main_arg0) = W (Proc.devRef .tc main_arg0) := by
  simp only [opsA, StableHlo.TRef.binary, StableHlo.TRef.nullary, StableHlo.TRef.reshape, StableHlo.TRef.ternary, StableHlo.TRef.unary, StableHlo.TRef.toBuf, StableHlo.TRef.ofBuf, cast_eq]; after_results_simp <;> rfl
theorem after_arg1 : StableHlo.after opsA W (Proc.devRef .tc main_arg1) = W (Proc.devRef .tc main_arg1) := by
  simp only [opsA, StableHlo.TRef.binary, StableHlo.TRef.nullary, StableHlo.TRef.reshape, StableHlo.TRef.ternary, StableHlo.TRef.unary, StableHlo.TRef.toBuf, StableHlo.TRef.ofBuf, cast_eq]; after_results_simp <;> rfl
theorem after_arg2 : StableHlo.after opsA W (Proc.devRef .tc main_arg2) = W (Proc.devRef .tc main_arg2) := by
  simp only [opsA, StableHlo.TRef.binary, StableHlo.TRef.nullary, StableHlo.TRef.reshape, StableHlo.TRef.ternary, StableHlo.TRef.unary, StableHlo.TRef.toBuf, StableHlo.TRef.ofBuf, cast_eq]; after_results_simp <;> rfl
theorem after_arg3 : StableHlo.after opsA W (Proc.devRef .tc main_arg3) = W (Proc.devRef .tc main_arg3) := by
  simp only [opsA, StableHlo.TRef.binary, StableHlo.TRef.nullary, StableHlo.TRef.reshape, StableHlo.TRef.ternary, StableHlo.TRef.unary, StableHlo.TRef.toBuf, StableHlo.TRef.ofBuf, cast_eq]; after_results_simp <;> rfl
theorem after_arg4 : StableHlo.after opsA W (Proc.devRef .tc main_arg4) = W (Proc.devRef .tc main_arg4) := by
  simp only [opsA, StableHlo.TRef.binary, StableHlo.TRef.nullary, StableHlo.TRef.reshape, StableHlo.TRef.ternary, StableHlo.TRef.unary, StableHlo.TRef.toBuf, StableHlo.TRef.ofBuf, cast_eq]; after_results_simp <;> rfl
theorem after_arg5 : StableHlo.after opsA W (Proc.devRef .tc main_arg5) = W (Proc.devRef .tc main_arg5) := by
  simp only [opsA, StableHlo.TRef.binary, StableHlo.TRef.nullary, StableHlo.TRef.reshape, StableHlo.TRef.ternary, StableHlo.TRef.unary, StableHlo.TRef.toBuf, StableHlo.TRef.ofBuf, cast_eq]; after_results_simp <;> rfl
theorem after_arg6 : StableHlo.after opsA W (Proc.devRef .tc main_arg6) = W (Proc.devRef .tc main_arg6) := by
  simp only [opsA, StableHlo.TRef.binary, StableHlo.TRef.nullary, StableHlo.TRef.reshape, StableHlo.TRef.ternary, StableHlo.TRef.unary, StableHlo.TRef.toBuf, StableHlo.TRef.ofBuf, cast_eq]; after_results_simp <;> rfl
theorem after_arg7 : StableHlo.after opsA W (Proc.devRef .tc main_arg7) = W (Proc.devRef .tc main_arg7) := by
  simp only [opsA, StableHlo.TRef.binary, StableHlo.TRef.nullary, StableHlo.TRef.reshape, StableHlo.TRef.ternary, StableHlo.TRef.unary, StableHlo.TRef.toBuf, StableHlo.TRef.ofBuf, cast_eq]; after_results_simp <;> rfl

end Cert.Proof.Host

end
-- ==== Proof.Sc.Tile.lean ====
/-
  One tile's task: it fetches its row of the index array, gathers the elements of the table its words name, and writes
  them out to its row of the result. The table is read by every tile at once, each at a read share of its own.
-/
module

public import proofs.«01_k».proof.Proof.Sc.Setup

@[expose] public section

noncomputable section

namespace Cert.Proof.Sc

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

abbrev tLoc (d : Dev nD) : Loc nD τ sig := (SparseCore.T d).loc main_v1
abbrev iLoc (d : Dev nD) : Loc nD τ sig := (SparseCore.T d).loc main_v19
abbrev oLoc (d : Dev nD) : Loc nD τ sig := (SparseCore.T d).loc main_v28

local notation "tV" => (Memref.whole Cert.KernelIdeal.main_v1_scv : Memref Cert.KernelIdeal.sig Kind.scVector Space.hbm Cert.KernelIdeal.S29184000 EltTy.f32)
local notation "iV" => (Memref.whole Cert.KernelIdeal.main_v19_scv : Memref Cert.KernelIdeal.sig Kind.scVector Space.hbm Cert.KernelIdeal.S32x80 EltTy.i32)
local notation "oV" => (Memref.whole Cert.KernelIdeal.main_v28_scv : Memref Cert.KernelIdeal.sig Kind.scVector Space.hbm Cert.KernelIdeal.S32x80 EltTy.f32)
local notation "sV" => (Memref.whole Cert.KernelIdeal.cc0_scratch0 : Memref Cert.KernelIdeal.sig Kind.scVector Space.vmem Cert.KernelIdeal.S80 EltTy.i32)
local notation "rV" => (Memref.whole Cert.KernelIdeal.cc0_scratch1 : Memref Cert.KernelIdeal.sig Kind.scVector Space.vmem Cert.KernelIdeal.S80 EltTy.f32)

/-! ## The rows and the tiles -/

theorem rdiv : 32 ∣ S32x80.size 0 := ⟨1, rfl⟩
/-- Row `w` of a `32 × 80` array. -/
abbrev rowR (w : Fin 32) : Rect S32x80 := Rect.part (s := S32x80) (a₀ := 0) rdiv w
abbrev rowSet (w : Fin 32) : Finset S32x80.Idx := (rowR w).set

/-- The row of tile `s` of SparseCore `c`. -/
def wid (c : Fin 2) (s : Fin 16) : Fin 32 := ⟨2 * s.val + c.val, by omega⟩

/-- The read share of the table that row `w`'s tile holds, and what is left beside the 32 of them. -/
abbrev tq (w : Fin 32) : PosShare TreeShare := Transfers.shareTok fullShare 32 w
abbrev tq₀ : PosShare TreeShare := Transfers.shareDrop fullShare 32

variable (tb : (d : Dev nD) → Buf (Elt F) (tLoc d)) (ix : (d : Dev nD) → Buf (Elt F) (iLoc d)) (o₀ : (d : Dev nD) → Buf (Elt F) (oLoc d))

/-- What the tiles leave in the result, on device `d`. -/
abbrev got (d : Dev nD) : Buf (Elt F) (oLoc d) := gathered (F := F) (tb d) (ix d)

abbrev iRowPts (d : Dev nD) (w : Fin 32) : sProp 𝕄 := iLoc d ↦[rowSet w]{fullShare} ix d
abbrev tShPts (d : Dev nD) (w : Fin 32) : sProp 𝕄 := tLoc d ↦{tq w} tb d
abbrev oRowPts (d : Dev nD) (w : Fin 32) (f : Buf (Elt F) (oLoc d)) : sProp 𝕄 := oLoc d ↦[rowSet w]{fullShare} f

/-- What tile `(c, s)` takes and what it brings back. -/
def goes (d : Dev nD) (w : Fin 32) : sProp 𝕄 := iprop(iRowPts ix d w ∗ tShPts tb d w ∗ oRowPts d w (o₀ d))
def comes (d : Dev nD) (w : Fin 32) : sProp 𝕄 := iprop(iRowPts ix d w ∗ tShPts tb d w ∗ oRowPts d w (got tb ix d))

/-- Every word of the index array names an element of the table. -/
def IxOK : Prop := ∀ (d : Dev nD) (j : S32x80.Idx), (show BitVec 32 from ix d j).toNat < 29184000

section Tile

variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev wL (L : grid0.Coords) : Fin 32 := wid (Fin.cast bound_zero (L 0)) (Fin.cast bound_one (L 1))

abbrev rowK (L : grid0.Coords) : Rect S32x80 := Rect.unit (s := S32x80) (k0_off1 L) S1x80.size (k0_off1_inb L)
/-- The tile's row of the index array and of the result, and the whole table, as the task addresses them. -/
abbrev iRowK (L : grid0.Coords) : Memref sig .scVector .hbm S80 .i32 := ((iV).slice (rowK L) (fun _ => rfl)).squeeze S80 squeezes_S1x80_S80
abbrev oRowK (L : grid0.Coords) : Memref sig .scVector .hbm S80 .f32 := ((oV).slice (rowK L) (fun _ => rfl)).squeeze S80 squeezes_S1x80_S80
abbrev tAllK : Memref sig .scVector .hbm S29184000 .f32 := (tV).slice (Rect.unit (s := S29184000) ![0] S29184000.size inb_S29184000_S29184000_0) (fun _ => rfl)

theorem rowK_eq : rowK L = rowR (wL L) := by
  unfold rowK rowR Rect.part Rect.block
  congr 1 <;> funext a
  · rw [k0_off1_eq]
    match a with
    | 0 => simp [Shape.partIx, Shape.partSize, wid]; rfl
    | 1 => simp [Shape.partIx, Shape.partSize]
  · match a with
    | 0 => simp [Shape.partSize]
    | 1 => simp [Shape.partSize]

theorem set_iRowK : (iRowK L).view.set = rowSet (wL L) := by
  show (((iV).view.slice (rowK L)).reshape S80 squeezes_S1x80_S80.numel_eq).set = (rowR (wL L)).set
  rw [View.set_reshape, ← rowK_eq]
  exact (View.set_slice _ _).trans Finset.map_refl
theorem set_oRowK : (oRowK L).view.set = rowSet (wL L) := by
  show (((oV).view.slice (rowK L)).reshape S80 squeezes_S1x80_S80.numel_eq).set = (rowR (wL L)).set
  rw [View.set_reshape, ← rowK_eq]
  exact (View.set_slice _ _).trans Finset.map_refl

theorem pts_iRowK (f : Buf (Elt F) (iLoc d)) :
    ((iRowK L).view.loc (V d (cV L) (jV L)) ↦[(iRowK L).view.set]{fullShare} f : sProp 𝕄) = iLoc d ↦[rowSet (wL L)]{fullShare} f := by
  rw [set_iRowK]
theorem pts_oRowK (f : Buf (Elt F) (oLoc d)) :
    ((oRowK L).view.loc (V d (cV L) (jV L)) ↦[(oRowK L).view.set]{fullShare} f : sProp 𝕄) = oLoc d ↦[rowSet (wL L)]{fullShare} f := by
  rw [set_oRowK]
theorem pts_tV (q : PosShare TreeShare) (f : Buf (Elt F) (tLoc d)) :
    ((tV).view.loc (V d (cV L) (jV L)) ↦{q} f : sProp 𝕄) = tLoc d ↦{q} f := rfl
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scratch2.sem)
abbrev cCcell (d : Dev nD) (c : Fin τ.nSC) (i : Fin τ.nSub) : GSem nD τ sig := (V d c i, .dma cc0_scoped1.sem)

theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scratch2.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped1.sem : SemLoc sig).isScoped .scVector = true; decide⟩⟩⟩)]

theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The positions the stream reads are in range: they are the tile's row of the index array. -/
theorem inb_of_ok (hix : IxOK ix) (fs : Buf (Elt F) ((V d (cV L) (jV L)).loc cc0_scratch0)) (pay : S80.Idx → Elt F .i32)
    (hpay : pay = (iRowK L).view.read (Elt F) (ix d)) :
    ∀ x, ((sV).view.read (Elt F) (View.write (Elt F) (sV).view fs pay Finset.univ) x).toNat < S29184000.size gathers_S29184000_S80.axis := by
  subst hpay; intro x
  rw [View.write_whole_univ]
  simp only [Memref.view_whole, View.read_whole]
  rw [show ∀ j, (iRowK L).view.read (Elt F) (ix d) j = ix d ((iRowK L).view.emb j) from fun j => (View.read_apply _ _).trans (cast_eq _ _)]
  exact hix d _

end Tile

end Cert.Proof.Sc

end
-- ==== Proof.Sc.TileRun.lean ====
/-
  The run of one tile's task.
-/
module

public import proofs.«01_k».proof.Proof.Sc.Tile

@[expose] public section

noncomputable section

namespace Cert.Proof.Sc

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.KernelIdeal.main_v1_scv : Memref Cert.KernelIdeal.sig Kind.scVector Space.hbm Cert.KernelIdeal.S29184000 EltTy.f32)
local notation "iV" => (Memref.whole Cert.KernelIdeal.main_v19_scv : Memref Cert.KernelIdeal.sig Kind.scVector Space.hbm Cert.KernelIdeal.S32x80 EltTy.i32)
local notation "oV" => (Memref.whole Cert.KernelIdeal.main_v28_scv : Memref Cert.KernelIdeal.sig Kind.scVector Space.hbm Cert.KernelIdeal.S32x80 EltTy.f32)
local notation "sV" => (Memref.whole Cert.KernelIdeal.cc0_scratch0 : Memref Cert.KernelIdeal.sig Kind.scVector Space.vmem Cert.KernelIdeal.S80 EltTy.i32)
local notation "rV" => (Memref.whole Cert.KernelIdeal.cc0_scratch1 : Memref Cert.KernelIdeal.sig Kind.scVector Space.vmem Cert.KernelIdeal.S80 EltTy.f32)

variable (tb : (d : Dev nD) → Buf (Elt F) (tLoc d)) (ix : (d : Dev nD) → Buf (Elt F) (iLoc d)) (o₀ : (d : Dev nD) → Buf (Elt F) (oLoc d))

section Tile

variable (d : Dev nD) (L : grid0.Coords)

/-- Element `x` of the tile's row, as the index array and the result are addressed. -/
theorem emb_rows (x : S80.Idx) : (show S32x80.Idx from (oRowK L).view.emb x) = (iRowK L).view.emb x := rfl

theorem emb_table (y : S29184000.Idx) : (show S29184000.Idx from (tAllK).view.emb y) = y := by
  funext a
  match a with
  | ⟨0, _⟩ => exact Fin.ext (by show 0 + 1 * (y 0).val = (y 0).val; omega)

/-- The gather's payload at `x`: the table's element that the index array's word there names. -/
theorem payload_eq (hix : IxOK ix) (lst : S80.Idx → Elt F .i32) (hl : lst = (iRowK L).view.read (Elt F) (ix d)) (h) (x : S80.Idx) :
    SparseCore.gatherPayload gathers_S29184000_S80 ((tAllK).view.read (Elt F) (tb d))
        (SparseCore.rows (o := 80) (si := S80) lst rfl h) x
      = gathered (F := F) (tb d) (ix d) ((iRowK L).view.emb x) := by
  subst hl
  unfold SparseCore.gatherPayload gathered
  rw [View.read_apply]
  refine (cast_eq _ _).trans ?_
  have e : (tAllK).view.emb (gathers_S29184000_S80.idx (SparseCore.rows (o := 80) (si := S80) ((iRowK L).view.read (Elt F) (ix d)) rfl h) x)
      = flatIx (show BitVec 32 from ix d ((iRowK L).view.emb x)).toNat := by
    refine (emb_table _).trans ?_
    have hx : S80.rowMajor.symm ((x gathers_S29184000_S80.axis').cast rfl) = x := by
      rw [Equiv.symm_apply_eq]
      exact Fin.ext (Shape.rowMajor_val_one (d := ![80]) x).symm
    funext a
    match a with
    | ⟨0, _⟩ =>
      refine (Shape.Gathers.idx_axis gathers_S29184000_S80 _ x).trans (Fin.ext ?_)
      show ((iRowK L).view.read (Elt F) (ix d) (S80.rowMajor.symm ((x gathers_S29184000_S80.axis').cast _))).toNat = _ % 29184000
      rw [Nat.mod_eq_of_lt (hix d _)]
      refine congrArg BitVec.toNat ?_
      refine (congrArg _ hx).trans ?_
      exact (View.read_apply _ _).trans (cast_eq _ _)
  exact congrArg _ e

/-- What the task writes out is the gathered value on its row. -/
theorem out_eq (pay : S80.Idx → Elt F .f32)
    (hpay : ∀ x, pay x = gathered (F := F) (tb d) (ix d) ((iRowK L).view.emb x)) :
    ((oRowK L).view.loc (V d (cV L) (jV L)) ↦[(oRowK L).view.set]{fullShare} (oRowK L).view.writes (Elt F) (o₀ d) [⟨Rect.whole S80, pay⟩] : sProp 𝕄)
      = ((oRowK L).view.loc (V d (cV L) (jV L)) ↦[(oRowK L).view.set]{fullShare} got tb ix d) := by
  refine pointsTo_congr fun j hj => ?_
  obtain ⟨x, -, rfl⟩ := Finset.mem_map.mp hj
  have h := View.read_writes_cons_emb (Val := Elt F) (oRowK L).view (o₀ d) (Rect.whole S80) pay [] x
  have hw : (Rect.whole S80).emb x = x := funext fun a => Fin.ext (by simp)
  rw [hw, View.read_apply] at h
  have h' : (oRowK L).view.writes (Elt F) (o₀ d) [⟨Rect.whole S80, pay⟩] ((oRowK L).view.emb x) = pay x := (cast_eq _ _).symm.trans h
  exact h'.trans (hpay x)

variable [FloatOps F]

set_option maxHeartbeats 4000000 in
theorem tile_body (hF : (K (F := F)).Facts) (hix : IxOK ix) (O : CellTallies nD τ sig (HIx 1)) (W : Waits sig (HIx 1)) (hO : ∀ g, O g none = 0) :
    iprop(levAts (K (F := F)).L (K (F := F)).lev ∗ emp
        ∗ goes tb ix o₀ d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_gather_body L tV (Memref.isWhole_whole _) iV (Memref.isWhole_whole _) oV (Memref.isWhole_whole _)
            sV (Memref.isWhole_whole _) rV (Memref.isWhole_whole _) cc0_scratch2 cc0_scoped0 cc0_scoped1)
          fun _ => iprop(comes tb ix d (wL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_gather_body_eq_skeleton]; unfold cc0__sc_gather_body_skel
  unfold goes comes
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowK (F := F) d L _).symm) $$ Hi
  ihave Ho' := (Entails.of_eq (pts_oRowK (F := F) d L _).symm) $$ Ho
  ihave Hx' := (Entails.of_eq (pts_tV (F := F) d L _ _).symm) $$ Hx
  ihave Hs' := (Entails.of_eq (pts_sV (F := F) d L _).symm) $$ Hs
  ihave Hr' := (Entails.of_eq (pts_rV (F := F) d L _).symm) $$ Hr
  sl_exec
  ihave Hxs := (pointsTo_split_subset (q := tq (wL L)) (f := tb d) (S := Finset.univ) (Finset.subset_univ (tAllK).view.set)).1 $$ Hx'
  icases Hxs with ⟨Hxs, Hxr⟩
  have hrs : (rV).view.set = Finset.univ := View.set_whole _
  have hss : (sV).view.set = Finset.univ := View.set_whole _
  ihave Hr'' := (Entails.of_eq (show ((rV).view.loc (V d (cV L) (jV L)) ↦{fullShare} fr : sProp 𝕄)
      = (rV).view.loc (V d (cV L) (jV L)) ↦[(rV).view.set]{fullShare} fr by rw [hrs])) $$ Hr'
  ihave Hs'' := (Entails.of_eq (show ((sV).view.loc (V d (cV L) (jV L)) ↦{fullShare} View.write (Elt F) (sV).view fs (tile_body.sl.dma0 ix d L) Finset.univ : sProp 𝕄)
      = (sV).view.loc (V d (cV L) (jV L)) ↦[(sV).view.set]{fullShare} View.write (Elt F) (sV).view fs (tile_body.sl.dma0 ix d L) Finset.univ
      by rw [hss])) $$ Hs'
  have hN : ∀ h : S29184000.Gathers 0 S80, ∑ j, ((rV).slice (S80.rowRect h.axis' j) (S80.stride_rowRect h.axis' j)).view.dmaCredit
      = (rV).view.dmaCredit := by decide
  iapply (SparseCore.wp_indirectGatherLocal countersEmb 𝒱₀ (V d (cV L) (jV L)) none (hg := gathers_S29184000_S80) (default : HIx 1)
      (rV).view.dmaCredit (hN _) (by decide) (inb_of_ok ix d L hix fs _ rfl)) $$ [Hxs Hr'' Hs'' HsemB]
  · isplitl [Hxs]; · iexact Hxs
    isplitl [Hr'']; · iexact Hr''
    isplitl [Hs'']; · iexact Hs''
    iexact HsemB
  iintro Hfl
  sl_exec
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr', Hxs, Hs'⟩, HsemB, HO⟩
  ihave Hx' := (pointsTo_split_subset (q := tq (wL L)) (f := tb d) (S := Finset.univ) (Finset.subset_univ (tAllK).view.set)).2 $$ [Hxs Hxr]; · isplitl [Hxs] <;> iassumption
  ihave Hr3 := (Entails.of_eq (show ((rV).view.loc (V d (cV L) (jV L)) ↦[(rV).view.set]{fullShare} _ : sProp 𝕄)
      = (rV).view.loc (V d (cV L) (jV L)) ↦{fullShare} _ by rw [hrs])) $$ Hr'
  ihave Hs3 := (Entails.of_eq (show ((sV).view.loc (V d (cV L) (jV L)) ↦[(sV).view.set]{fullShare} _ : sProp 𝕄)
      = (sV).view.loc (V d (cV L) (jV L)) ↦{fullShare} _ by rw [hss])) $$ Hs'
  sl_exec
  sl_step
  have hp : ∀ x, tile_body.sl.dma0_1 tb ix d L hix fs fr x = gathered (F := F) (tb d) (ix d) ((iRowK L).view.emb x) := fun x =>
    Eq.trans (b := SparseCore.gatherPayload gathers_S29184000_S80 ((tAllK).view.read (Elt F) (tb d))
        (SparseCore.rows (o := 80) (si := S80) ((sV).view.read (Elt F) (View.write (Elt F) (sV).view fs ((iRowK L).view.read (Elt F) (ix d)) Finset.univ))
          rfl (inb_of_ok ix d L hix fs _ rfl)) x)
      (congrFun (View.write_whole_univ (Val := Elt F) cc0_scratch1 fr _) x)
      (payload_eq tb ix d L hix _ (View.write_whole_univ (Val := Elt F) cc0_scratch0 fs _) _ x)
  ihave Ho2 := (Entails.of_eq (out_eq tb ix o₀ d L _ hp)) $$ Ho'
  isplitl [Hi' Hx' Ho2]
  · isplitl [Hi']; · iapply (Entails.of_eq (pts_iRowK (F := F) d L _)); iexact Hi'
    isplitl [Hx']; · iexact Hx'
    iapply (Entails.of_eq (pts_oRowK (F := F) d L _)); iexact Ho2
  isplitl [Hs3 Hr3 Hbufs]
  · isplitl [Hs3]; · iexists _; iexact Hs3
    isplitl [Hr3]; · iexists _; iexact Hr3
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

end Cert.Proof.Sc

end
-- ==== Proof.Sc.Pay.lean ====
/-
  What the SparseCore call's handshakes carry: each SparseCore is handed its sixteen rows, each tile its own; the obligations
  of the launch theorem about them; the whole operands as the two SparseCores' shares.
-/
module

public import proofs.«01_k».proof.Proof.Sc.TileRun

@[expose] public section

noncomputable section

namespace Cert.Proof.Sc

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.KernelIdeal.main_v1_scv : Memref Cert.KernelIdeal.sig Kind.scVector Space.hbm Cert.KernelIdeal.S29184000 EltTy.f32)
local notation "iV" => (Memref.whole Cert.KernelIdeal.main_v19_scv : Memref Cert.KernelIdeal.sig Kind.scVector Space.hbm Cert.KernelIdeal.S32x80 EltTy.i32)
local notation "oV" => (Memref.whole Cert.KernelIdeal.main_v28_scv : Memref Cert.KernelIdeal.sig Kind.scVector Space.hbm Cert.KernelIdeal.S32x80 EltTy.f32)
local notation "sV" => (Memref.whole Cert.KernelIdeal.cc0_scratch0 : Memref Cert.KernelIdeal.sig Kind.scVector Space.vmem Cert.KernelIdeal.S80 EltTy.i32)
local notation "rV" => (Memref.whole Cert.KernelIdeal.cc0_scratch1 : Memref Cert.KernelIdeal.sig Kind.scVector Space.vmem Cert.KernelIdeal.S80 EltTy.f32)

variable (tb : (d : Dev nD) → Buf (Elt F) (tLoc d)) (ix : (d : Dev nD) → Buf (Elt F) (iLoc d)) (o₀ : (d : Dev nD) → Buf (Elt F) (oLoc d))

theorem idx_core (c : Fin ((K (F := F)).nCore 0)) : c.val < 2 := c.isLt

/-- The row of task `i` of the call on its SparseCore `c`. -/
def taskRow (c : Fin ((K (F := F)).nCore 0)) (i : Fin ((K (F := F)).nSub 0)) : Fin 32 :=
  wid (Fin.cast nCore_zero c) (Fin.cast nSub_zero i)

def P : (K (F := F)).Pay (nD := nD) (Val := Elt F) (Name := ℕ) (U := UU) where
  st := fun q d c => match q with
    | 0 => bigSep Finset.univ fun i : Fin ((K (F := F)).nSub 0) => goes tb ix o₀ d (taskRow (F := F) c i)
  dn := fun q d c => match q with
    | 0 => bigSep Finset.univ fun i : Fin ((K (F := F)).nSub 0) => comes tb ix d (taskRow (F := F) c i)
  go := fun q d c i => match q with | 0 => goes tb ix o₀ d (taskRow (F := F) c i)
  td := fun q d c i => match q with | 0 => comes tb ix d (taskRow (F := F) c i)
  x := fun _ _ => iprop(emp)

instance goes_storable (d : Dev nD) (w : Fin 32) : BI.Storable (upEmb : UEmb _ 𝕄) (goes tb ix o₀ d w) := by
  unfold goes; infer_instance
instance comes_storable (d : Dev nD) (w : Fin 32) : BI.Storable (upEmb : UEmb _ 𝕄) (comes tb ix d w) := by
  unfold comes; infer_instance

instance P_storable : (P (F := F) tb ix o₀).IsStorable where
  st q d c := match q with
    | 0 => (inferInstance : BI.Storable (upEmb : UEmb _ 𝕄)
        (bigSep Finset.univ fun i : Fin ((K (F := F)).nSub 0) => goes tb ix o₀ d (taskRow (F := F) c i)))
  dn q d c := match q with
    | 0 => (inferInstance : BI.Storable (upEmb : UEmb _ 𝕄)
        (bigSep Finset.univ fun i : Fin ((K (F := F)).nSub 0) => comes tb ix d (taskRow (F := F) c i)))
  go q d c i := match q with
    | 0 => (inferInstance : BI.Storable (upEmb : UEmb _ 𝕄) (goes tb ix o₀ d (taskRow (F := F) c i)))
  td q d c i := match q with
    | 0 => (inferInstance : BI.Storable (upEmb : UEmb _ 𝕄) (comes tb ix d (taskRow (F := F) c i)))

/-! ## The obligations -/

theorem vecSplit : (K (F := F)).VecSplit' (P tb ix o₀) 0 := by
  intro d c
  show (bigSep Finset.univ fun i : Fin ((K (F := F)).nSub 0) => goes tb ix o₀ d (taskRow (F := F) c i)) ⊢ |={Set.univ}=> iprop(
      (bigSep Finset.univ fun i : Fin ((K (F := F)).nSub 0) => goes tb ix o₀ d (taskRow (F := F) c i))
      ∗ ((bigSep Finset.univ fun i : Fin ((K (F := F)).nSub 0) => comes tb ix d (taskRow (F := F) c i))
          -∗ (bigSep Finset.univ fun i : Fin ((K (F := F)).nSub 0) => comes tb ix d (taskRow (F := F) c i))))
  iintro H; imodintro
  isplitl [H]; · iexact H
  iintro H; iexact H

variable [FloatOps F]

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_gather_body (coordsV c s)
          tV (Memref.isWhole_whole _) iV (Memref.isWhole_whole _) oV (Memref.isWhole_whole _)
          sV (Memref.isWhole_whole _) rV (Memref.isWhole_whole _) cc0_scratch2 cc0_scoped0 cc0_scoped1) ⟨⟩ c s := rfl

omit [FloatOps F] in
theorem post_widen {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hix : IxOK ix) : (K (F := F)).TileObl (D (F := F)) 𝒱 (P tb ix o₀) v₀ 0 := by
  intro d c i O W hO _ _
  simp only [show (P tb ix o₀).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body tb ix o₀ d (coordsV ⟨_, hci.1⟩ ⟨_, hci.2⟩) hF hix O W hO).trans (wp_mono frame _ _ fun _ => post_widen)

/-! ## The operands, whole and split among the tiles -/

omit [FloatOps F] in
theorem rows_disjoint : ∀ i ∈ (Finset.univ : Finset (Fin 32)), ∀ j ∈ (Finset.univ : Finset (Fin 32)), i ≠ j → Disjoint (rowSet i) (rowSet j) :=
  fun _ _ _ _ h => Rect.part_disjoint rdiv h
omit [FloatOps F] in
theorem rows_cover : (Finset.univ : Finset (Fin 32)).biUnion rowSet = Finset.univ := Rect.biUnion_part rdiv

omit [FloatOps F] in
theorem i_rows (d : Dev nD) (f : Buf (Elt F) (iLoc d)) :
    (iLoc d ↦{fullShare} f : sProp 𝕄) = bigSep Finset.univ fun w : Fin 32 => iLoc d ↦[rowSet w]{fullShare} f := by
  rw [← pointsTo_biUnion Finset.univ (ℓ := iLoc d) rowSet rows_disjoint, rows_cover]; try rfl
omit [FloatOps F] in
theorem o_rows (d : Dev nD) (f : Buf (Elt F) (oLoc d)) :
    (oLoc d ↦{fullShare} f : sProp 𝕄) = bigSep Finset.univ fun w : Fin 32 => oLoc d ↦[rowSet w]{fullShare} f := by
  rw [← pointsTo_biUnion Finset.univ (ℓ := oLoc d) rowSet rows_disjoint, rows_cover]; try rfl

/-- The pairs (SparseCore, tile) and the rows. -/
def rowEquiv : Fin 2 × Fin 16 ≃ Fin 32 where
  toFun p := wid p.1 p.2
  invFun w := (⟨w.val % 2, Nat.mod_lt _ (by omega)⟩, ⟨w.val / 2, by omega⟩)
  left_inv p := by
    rcases p with ⟨c, s⟩
    refine Prod.ext (Fin.ext ?_) (Fin.ext ?_) <;> simp [wid] <;> omega
  right_inv w := Fin.ext (by simp [wid]; omega)

omit [FloatOps F] in
/-- A family over the rows, as the call's two SparseCores and their sixteen tasks hold it. -/
theorem rows_tasks (Φ : Fin 32 → sProp 𝕄) :
    bigSep Finset.univ Φ = bigSep Finset.univ fun c : Fin ((K (F := F)).nCore 0) =>
      bigSep Finset.univ fun i : Fin ((K (F := F)).nSub 0) => Φ (taskRow (F := F) c i) := by
  rw [bigSep_univ_equiv rowEquiv Φ, bigSep_univ_prod]; rfl

/-- The call's operands, whole: the index array, the table, the result. -/
theorem st_split (d : Dev nD) :
    iprop((iLoc d ↦{fullShare} ix d) ∗ (tLoc d ↦{fullShare} tb d) ∗ (oLoc d ↦{fullShare} o₀ d))
      ⊢ (iprop((tLoc d ↦{tq₀} tb d) ∗ bigSep Finset.univ fun c : Fin ((K (F := F)).nCore 0) => (P tb ix o₀).st 0 d c) : sProp 𝕄) := by
  rw [i_rows, o_rows]
  show _ ⊢ iprop((tLoc d ↦{tq₀} tb d) ∗ bigSep Finset.univ fun c : Fin ((K (F := F)).nCore 0) =>
      bigSep Finset.univ fun i : Fin ((K (F := F)).nSub 0) => goes tb ix o₀ d (taskRow (F := F) c i))
  rw [← rows_tasks (F := F) (fun w => goes tb ix o₀ d w)]
  unfold goes
  rw [bigSep_sep', bigSep_sep']
  iintro ⟨Hi, Ht, Ho⟩
  ihave Ht' := (Transfers.pointsTo_toks_split (ℓ := tLoc d) (S := Finset.univ) (f := tb d) fullShare 32) $$ Ht
  icases Ht' with ⟨Hd, Hts⟩
  isplitl [Hd]; · iexact Hd
  isplitl [Hi]; · iexact Hi
  isplitl [Hts]; · iexact Hts
  iexact Ho

/-- They come back, the result gathered. -/
theorem dn_join (d : Dev nD) :
    (iprop((tLoc d ↦{tq₀} tb d) ∗ bigSep Finset.univ fun c : Fin ((K (F := F)).nCore 0) => (P tb ix o₀).dn 0 d c) : sProp 𝕄)
      ⊢ iprop((iLoc d ↦{fullShare} ix d) ∗ (tLoc d ↦{fullShare} tb d) ∗ (oLoc d ↦{fullShare} got tb ix d)) := by
  rw [i_rows, o_rows]
  show iprop((tLoc d ↦{tq₀} tb d) ∗ bigSep Finset.univ fun c : Fin ((K (F := F)).nCore 0) =>
      bigSep Finset.univ fun i : Fin ((K (F := F)).nSub 0) => comes tb ix d (taskRow (F := F) c i)) ⊢ _
  rw [← rows_tasks (F := F) (fun w => comes tb ix d w)]
  unfold comes
  rw [bigSep_sep', bigSep_sep']
  iintro ⟨Hd, Hi, Hts, Ho⟩
  ihave Ht' := (Transfers.pointsTo_toks_join (ℓ := tLoc d) (S := Finset.univ) (f := tb d) fullShare 32) $$ [Hd Hts]
  · isplitl [Hd]; · iexact Hd
    iexact Hts
  isplitl [Hi]; · iexact Hi
  isplitl [Ht']; · iexact Ht'
  iexact Ho

end Cert.Proof.Sc

end
-- ==== Proof.Host.Vals.lean ====
/-
  The contents of the TensorCore's buffers between the steps of the program.
-/
module

public import proofs.«01_k».proof.Proof.Host.Cut
public import proofs.«01_k».proof.Proof.Sc.Pay

@[expose] public section

noncomputable section

namespace Cert.Proof.Host

open Cert.Proof.Sc Cert.Proof.Tc
open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (d : Dev nD)

/-- Every buffer of a device at the launch, -/
abbrev V0 : Valuation τ sig (Elt F) := fun b => m (d, b)
/-- before the gather, -/
def VA : Valuation τ sig (Elt F) := StableHlo.after opsA (V0 m d)
/-- the gather's operands and its result's first contents, -/
abbrev tb (d : Dev nD) : Buf (Elt F) (tLoc d) := VA m d (Proc.devRef .tc main_v1)
abbrev ix (d : Dev nD) : Buf (Elt F) (iLoc d) := VA m d (Proc.devRef .tc main_v19)
abbrev o₀ (d : Dev nD) : Buf (Elt F) (oLoc d) := VA m d (Proc.devRef .tc main_v28)
/-- after it, -/
def VB : Valuation τ sig (Elt F) := Function.update (VA m d) (Proc.devRef .tc main_v28) (got (tb m) (ix m) d)
/-- the same, read at the TensorCore's references, -/
abbrev VBr (c : Dev nD) (b : Ref sig .tc) : Buf (Elt F) ((SparseCore.T c : Thread nD τ).loc b) := VB m c (Proc.devRef .tc b)
/-- after the TensorCore's region, -/
def VC : Valuation τ sig (Elt F) :=
  Function.update (Function.update (VB m d) (Proc.devRef .tc main_v29_0) (fun _ => ceOut (VBr m) d)) (Proc.devRef .tc main_v29_1) (fun _ => klOut (VBr m) d)
abbrev VCr (c : Dev nD) (b : Ref sig .tc) : Buf (Elt F) ((SparseCore.T c : Thread nD τ).loc b) := VC m c (Proc.devRef .tc b)
/-- and at the end. -/
def VE : Valuation τ sig (Elt F) := StableHlo.after opsB (VC m d)

theorem VC_ce : VCr m d main_v29_0 = fun _ => ceOut (VBr m) d := by
  show VC m d _ = _
  unfold VC
  rw [Function.update_of_ne (by decide), Function.update_self]
theorem VC_kl : VCr m d main_v29_1 = fun _ => klOut (VBr m) d := by
  show VC m d _ = _
  unfold VC
  rw [Function.update_self]
theorem VC_ne (b : Ref sig .tc) (h0 : b ≠ main_v29_0) (h1 : b ≠ main_v29_1) : VCr m d b = VBr m d b := by
  show VC m d _ = VB m d _
  unfold VC
  rw [Function.update_of_ne (fun h => h1 (Proc.devRef_injective (τ := τ) .tc h)), Function.update_of_ne (fun h => h0 (Proc.devRef_injective (τ := τ) .tc h))]
theorem VB_got : VB m d (Proc.devRef .tc main_v28) = got (tb m) (ix m) d := by
  unfold VB; rw [Function.update_self]
theorem VB_ne (b : DevRef τ sig) (h : b ≠ Proc.devRef .tc main_v28) : VB m d b = VA m d b := by
  unfold VB; rw [Function.update_of_ne h]

/-- The program's results and arguments at the end. -/
theorem VE_ce : VE m d (Proc.devRef .tc main_v30) = shapeCast S_ (VC m d (Proc.devRef .tc main_v29_0)) shapeCasts_S1x1_S_ := by
  unfold VE; simp only [opsB]; after_results_simp <;> rfl
theorem VE_kl : VE m d (Proc.devRef .tc main_v31) = shapeCast S_ (VC m d (Proc.devRef .tc main_v29_1)) shapeCasts_S1x1_S_ := by
  unfold VE; simp only [opsB]; after_results_simp <;> rfl
theorem VB_arg0 : VB m d (Proc.devRef .tc main_arg0) = m (d, Proc.devRef .tc main_arg0) :=
  (VB_ne m d _ (by decide)).trans (after_arg0 (V0 m d))
theorem VE_arg0 : VE m d (Proc.devRef .tc main_arg0) = m (d, Proc.devRef .tc main_arg0) :=
  (show VE m d (Proc.devRef .tc main_arg0) = VC m d (Proc.devRef .tc main_arg0) by
    unfold VE; simp only [opsB]; after_results_simp <;> rfl).trans ((VC_ne m d main_arg0 (by decide) (by decide)).trans (VB_arg0 m d))
theorem VB_arg1 : VB m d (Proc.devRef .tc main_arg1) = m (d, Proc.devRef .tc main_arg1) :=
  (VB_ne m d _ (by decide)).trans (after_arg1 (V0 m d))
theorem VE_arg1 : VE m d (Proc.devRef .tc main_arg1) = m (d, Proc.devRef .tc main_arg1) :=
  (show VE m d (Proc.devRef .tc main_arg1) = VC m d (Proc.devRef .tc main_arg1) by
    unfold VE; simp only [opsB]; after_results_simp <;> rfl).trans ((VC_ne m d main_arg1 (by decide) (by decide)).trans (VB_arg1 m d))
theorem VB_arg2 : VB m d (Proc.devRef .tc main_arg2) = m (d, Proc.devRef .tc main_arg2) :=
  (VB_ne m d _ (by decide)).trans (after_arg2 (V0 m d))
theorem VE_arg2 : VE m d (Proc.devRef .tc main_arg2) = m (d, Proc.devRef .tc main_arg2) :=
  (show VE m d (Proc.devRef .tc main_arg2) = VC m d (Proc.devRef .tc main_arg2) by
    unfold VE; simp only [opsB]; after_results_simp <;> rfl).trans ((VC_ne m d main_arg2 (by decide) (by decide)).trans (VB_arg2 m d))
theorem VB_arg3 : VB m d (Proc.devRef .tc main_arg3) = m (d, Proc.devRef .tc main_arg3) :=
  (VB_ne m d _ (by decide)).trans (after_arg3 (V0 m d))
theorem VE_arg3 : VE m d (Proc.devRef .tc main_arg3) = m (d, Proc.devRef .tc main_arg3) :=
  (show VE m d (Proc.devRef .tc main_arg3) = VC m d (Proc.devRef .tc main_arg3) by
    unfold VE; simp only [opsB]; after_results_simp <;> rfl).trans ((VC_ne m d main_arg3 (by decide) (by decide)).trans (VB_arg3 m d))
theorem VB_arg4 : VB m d (Proc.devRef .tc main_arg4) = m (d, Proc.devRef .tc main_arg4) :=
  (VB_ne m d _ (by decide)).trans (after_arg4 (V0 m d))
theorem VE_arg4 : VE m d (Proc.devRef .tc main_arg4) = m (d, Proc.devRef .tc main_arg4) :=
  (show VE m d (Proc.devRef .tc main_arg4) = VC m d (Proc.devRef .tc main_arg4) by
    unfold VE; simp only [opsB]; after_results_simp <;> rfl).trans ((VC_ne m d main_arg4 (by decide) (by decide)).trans (VB_arg4 m d))
theorem VB_arg5 : VB m d (Proc.devRef .tc main_arg5) = m (d, Proc.devRef .tc main_arg5) :=
  (VB_ne m d _ (by decide)).trans (after_arg5 (V0 m d))
theorem VE_arg5 : VE m d (Proc.devRef .tc main_arg5) = m (d, Proc.devRef .tc main_arg5) :=
  (show VE m d (Proc.devRef .tc main_arg5) = VC m d (Proc.devRef .tc main_arg5) by
    unfold VE; simp only [opsB]; after_results_simp <;> rfl).trans ((VC_ne m d main_arg5 (by decide) (by decide)).trans (VB_arg5 m d))
theorem VB_arg6 : VB m d (Proc.devRef .tc main_arg6) = m (d, Proc.devRef .tc main_arg6) :=
  (VB_ne m d _ (by decide)).trans (after_arg6 (V0 m d))
theorem VE_arg6 : VE m d (Proc.devRef .tc main_arg6) = m (d, Proc.devRef .tc main_arg6) :=
  (show VE m d (Proc.devRef .tc main_arg6) = VC m d (Proc.devRef .tc main_arg6) by
    unfold VE; simp only [opsB]; after_results_simp <;> rfl).trans ((VC_ne m d main_arg6 (by decide) (by decide)).trans (VB_arg6 m d))
theorem VB_arg7 : VB m d (Proc.devRef .tc main_arg7) = m (d, Proc.devRef .tc main_arg7) :=
  (VB_ne m d _ (by decide)).trans (after_arg7 (V0 m d))
theorem VE_arg7 : VE m d (Proc.devRef .tc main_arg7) = m (d, Proc.devRef .tc main_arg7) :=
  (show VE m d (Proc.devRef .tc main_arg7) = VC m d (Proc.devRef .tc main_arg7) by
    unfold VE; simp only [opsB]; after_results_simp <;> rfl).trans ((VC_ne m d main_arg7 (by decide) (by decide)).trans (VB_arg7 m d))

/-! ### The gather's buffers among the TensorCore's -/

/-- The table, the indices and the gathered values. -/
def gRefs : Finset (DevRef τ sig) := {Proc.devRef .tc main_v1, Proc.devRef .tc main_v19, Proc.devRef .tc main_v28}
theorem gRefs_sub : gRefs ⊆ Pipeline.ucRefs τ sig := by
  intro b hb
  simp only [gRefs, Finset.mem_insert, Finset.mem_singleton] at hb
  rcases hb with rfl | rfl | rfl <;> exact Finset.mem_filter.mpr ⟨StableHlo.devRef_mem_tcRefs _, by decide⟩

theorem held_gRefs (W : Valuation τ sig (Elt F)) :
    (StableHlo.held (SparseCore.T d : Thread nD τ) gRefs W : sProp 𝕄)
      = iprop((tLoc d ↦{fullShare} W (Proc.devRef .tc main_v1)) ∗ (iLoc d ↦{fullShare} W (Proc.devRef .tc main_v19)) ∗ (oLoc d ↦{fullShare} W (Proc.devRef .tc main_v28))) := by
  unfold StableHlo.held gRefs
  rw [SparseCore.bigSep_insert' (by decide), SparseCore.bigSep_insert' (by decide), bigSep_singleton]

theorem held_A : (StableHlo.held (SparseCore.T d : Thread nD τ) (Pipeline.ucRefs τ sig) (VA m d) : sProp 𝕄)
    = iprop(((tLoc d ↦{fullShare} tb m d) ∗ (iLoc d ↦{fullShare} ix m d) ∗ (oLoc d ↦{fullShare} o₀ m d))
        ∗ StableHlo.held (SparseCore.T d : Thread nD τ) (Pipeline.ucRefs τ sig \ gRefs) (VA m d)) := by
  rw [StableHlo.held_sub_split _ gRefs_sub, held_gRefs]

theorem held_B : (StableHlo.held (SparseCore.T d : Thread nD τ) (Pipeline.ucRefs τ sig) (VB m d) : sProp 𝕄)
    = iprop(((tLoc d ↦{fullShare} tb m d) ∗ (iLoc d ↦{fullShare} ix m d) ∗ (oLoc d ↦{fullShare} got (tb m) (ix m) d))
        ∗ StableHlo.held (SparseCore.T d : Thread nD τ) (Pipeline.ucRefs τ sig \ gRefs) (VA m d)) := by
  rw [StableHlo.held_sub_split _ gRefs_sub, held_gRefs, VB_got, VB_ne m d _ (by decide), VB_ne m d _ (by decide)]
  rw [StableHlo.held_congr (SparseCore.T d : Thread nD τ) (V := VB m d) (V' := VA m d) fun b hb => VB_ne m d b (fun h => (Finset.mem_sdiff.mp hb).2 (by
    rw [h]; simp [gRefs]))]

end Cert.Proof.Host

end
-- ==== Proof.Main.lean ====
/-
  The program's run: the launch, the program of the TensorCore around its two kernel calls, and what memory holds at
  the end.
-/
module

public import proofs.«01_k».proof.Proof.Host.Vals
public import proofs.«01_k».proof.Proof.Tc.Entry

@[expose] public section

noncomputable section

namespace Cert.Proof.Main

open Cert.Proof.Sc Cert.Proof.Tc Cert.Proof.Host
open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-- What passes between the program and the tiles. -/
abbrev PP : (K (F := F)).Pay (nD := nD) (Val := Elt F) (Name := ℕ) (U := UU) := P (tb m) (ix m) (o₀ m)

/-! ### The launch's ghost state -/

/-- Both protocols' rounds at the launch, and no counter. -/
def u₀ : UU := (initOf (K (F := F)).hsCells (K (F := F)).hsToks, (initOf (Pipeline.cells cfgs cellOf_inj) (Pipeline.launchToks cfgs cellOf_inj), 1))

/-- The region's share of it on one device. -/
abbrev G (d : Dev nD) : sProp 𝕄 := iprop(Pipeline.cellsGhost cfgs (EP (F := F)) 0 d ∗ Pipeline.toksInit cfgs (EP (F := F)) 0 d)

theorem own_split (a : UH) (b : UP) : (ownU (a, (b, (1 : Counters))) : sProp 𝕄) ⊢ iprop(BI.own (EH a) ∗ BI.own (EP (F := F) b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

theorem bigSep_emp' {I : Type} [DecidableEq I] (s : Finset I) : (bigSep s fun _ => (iprop(emp) : sProp 𝕄)) = iprop(emp) := bigSep_emp_const s

theorem hu₀ : (ownU (u₀ (F := F)) : sProp 𝕄)
    ⊢ |={Set.univ}=> iprop(BI.own (EH (initOf (K (F := F)).hsCells (K (F := F)).hsToks)) ∗ bigSep Finset.univ G
        ∗ bigSep Finset.univ fun thr : Thread nD τ => bigSep Finset.univ fun q : Fin 1 => (PP m).x q thr) := by
  unfold u₀
  iintro Hu
  ihave H := (own_split _ _) $$ Hu
  icases H with ⟨HH, HP⟩
  imod (Pipeline.fund_ghost cfgs (EP (F := F)) cellOf_inj) $$ HP with ⟨Hg, Ht⟩
  imodintro
  isplitl [HH]; · iexact HH
  isplitl [Hg Ht]
  · unfold G
    rw [bigSep_sep']
    isplitl [Hg]
    · iapply (Entails.of_eq (bigSep_congr fun c _ => bigSep_univ_of_subsingleton (0 : Fin 1))) $$ Hg
    · iapply (Entails.of_eq (bigSep_congr fun c _ => bigSep_univ_of_subsingleton (0 : Fin 1))) $$ Ht
  rw [show (bigSep Finset.univ fun thr : Thread nD τ => bigSep Finset.univ fun q : Fin 1 => (PP (F := F) m).x q thr) = bigSep Finset.univ fun _ => iprop(emp) from
    bigSep_congr fun _ _ => bigSep_univ_of_subsingleton (0 : Fin 1), bigSep_emp']
  iempintro

/-! ### The program of the TensorCore -/

/-- The pipelines' configurations take no operand. -/
abbrev adm : (p : Fin 1) → (pcfgs (F := F) p).Adm := fun p => (cfgs p).toPCfg_adm

/-- The waits recorded after the gather. -/
def εc (c : Dev nD) : Set (SemLoc sig × HIx 1) := {p | (K (F := F)).lev ((SparseCore.T c : Thread nD τ), p.1) p.2 ≤ 8}

/-- The TensorCore's side of the protocol without its record of waits. -/
def tcRest (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last (N := 1) q)) 1)))

theorem tcSt_one (d : Dev nD) : ((K (F := F)).tcSt EH d 1 : sProp 𝕄)
    = iprop((∃ W, ⌜∀ p ∈ W, p ∈ εc (F := F) d⌝ ∗ owes (SparseCore.T d : Thread nD τ) (0 : CellTallies nD τ sig (HIx 1)) W) ∗ tcRest (F := F) d) := by
  unfold SparseCore.Cfg.tcSt tcRest
  rw [(K (F := F)).Otc_end d (le_refl 1)]
  rfl

theorem owes_back (d : Dev nD) :
    iprop(∃ W, ⌜∀ p ∈ W, p ∈ εc (F := F) d ∨ p.2 = none⌝ ∗ owes (SparseCore.T d : Thread nD τ) (0 : CellTallies nD τ sig (HIx 1)) W)
      ⊢ (iprop(∃ W, ⌜∀ p ∈ W, p ∈ εc (F := F) d⌝ ∗ owes (SparseCore.T d : Thread nD τ) (0 : CellTallies nD τ sig (HIx 1)) W) : sProp 𝕄) := by
  iintro ⟨%W, %hW, HO⟩
  iexists W
  isplitr
  · ipureintro
    intro p hp
    rcases hW p hp with h | h
    · exact h
    · show (K (F := F)).lev _ p.2 ≤ 8
      rw [h]; exact Nat.zero_le _
  iexact HO

/-- What the program of the TensorCore leaves: every unscoped buffer at its last contents. -/
abbrev FIN (d : Dev nD) : sProp 𝕄 := StableHlo.held (SparseCore.T d : Thread nD τ) (Pipeline.ucRefs τ sig) (VE m d)

/-- The region's record at the contents after the gather. -/
abbrev rg := reg (VBr m) (εc (F := F)) adm (VCr m) (fun d => tcRest d) (VC_ce m) (VC_kl m) (VC_ne m)

end Cert.Proof.Main

end
-- ==== Proof.Region.lean ====
/-
  The TensorCore's kernel, called from the program.
-/
module

public import proofs.«01_k».proof.Proof.Main

@[expose] public section

noncomputable section

namespace Cert.Proof.Main

open Cert.Proof.Sc Cert.Proof.Tc Cert.Proof.Host
open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-- What follows the region may take a step that gives up nothing. -/
theorem post_mono (A B : sProp 𝕄) (Q : PUnit → sProp 𝕄) (R : sProp 𝕄) :
    iprop((iprop(A ∗ B) -∗ Q ⟨⟩) ∗ R) ⊢ iprop((iprop(A ∗ B) -∗ |={Set.univ}=> Q ⟨⟩) ∗ R) := by
  iintro ⟨Hk, HR⟩
  isplitl [Hk]
  · iintro H
    imodintro
    iapply Hk
    iexact H
  iexact HR

set_option backward.isDefEq.respectTransparency.types false in
/-- The region, called from the program. -/
theorem region_wp [∀ e, Nonempty (Elt F e)] (d : Dev nD) (Q : PUnit → sProp 𝕄) :
    iprop((iprop(boundary (SparseCore.T d : Thread nD τ) ∗ (rg m).post d) -∗ Q ⟨⟩)
        ∗ boundary (SparseCore.T d : Thread nD τ) ∗ (rg m).pre d ∗ levAts (K (F := F)).L (K (F := F)).lev ∗ G d)
      ⊢ wp frame (wpE ((K (F := F)).defs (D (F := F))) 𝒱 (SparseCore.T d) none) Set.univ
          (Prog.lift (.customCall (SparseCore.inner (Pipeline.entry 0)) ())) Q := by
  have h := Pipeline.RegionSeg.wp (pcfgs (F := F)) adm (pdats (VBr m) (εc (F := F)) adm) none cellOf_inj EP defs₀ 𝒱₀ (K (F := F)).L (K (F := F)).lev
    (rg m) d none (fun u hu => by cases hu) (fun _ => .ret ⟨⟩) Q
  have h2 := (K (F := F)).wp_liftProg (D (F := F)) 𝒱 (SparseCore.T d) Set.univ none (.op (.customCall (Pipeline.entry 0) ()) .ret) Q
  refine BI.Entails.trans ?_ h2
  clear h2
  refine BI.Entails.trans ?_ h
  clear h
  simp only [wp_ret]
  generalize (rg m).pre d = Pr
  generalize (rg m).post d = Po
  exact post_mono _ _ _ _

end Cert.Proof.Main

end
-- ==== Proof.Run.lean ====
/-
  The program on one device's TensorCore, and the run of the whole program.
-/
module

public import proofs.«01_k».proof.Proof.Region

@[expose] public section

noncomputable section

namespace Cert.Proof.Main

open Cert.Proof.Sc Cert.Proof.Tc Cert.Proof.Host
open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

theorem pre_eq (d : Dev nD) : (rg m).pre d = iprop(StableHlo.held (SparseCore.T d : Thread nD τ) (Pipeline.ucRefs τ sig) (VB m d) ∗ tcRest (F := F) d
    ∗ ∃ W, ⌜∀ p ∈ W, p ∈ εc (F := F) d⌝ ∗ owes (SparseCore.T d : Thread nD τ) (0 : CellTallies nD τ sig (HIx 1)) W) := by
  rw [← Pipeline.unscopedBufs_held d (VB m d)]; rfl
theorem post_eq (d : Dev nD) : (rg m).post d = iprop(StableHlo.held (SparseCore.T d : Thread nD τ) (Pipeline.ucRefs τ sig) (VC m d) ∗ tcRest (F := F) d
    ∗ ∃ W, ⌜∀ p ∈ W, p ∈ εc (F := F) d ∨ p.2 = none⌝ ∗ owes (SparseCore.T d : Thread nD τ) (0 : CellTallies nD τ sig (HIx 1)) W) := by
  rw [← Pipeline.unscopedBufs_held d (VC m d)]; rfl

set_option backward.isDefEq.respectTransparency.types false in
/-- The operations before the gather, -/
theorem seqA_wp (d : Dev nD) {β : Type} (k : PUnit → Prog (TpuEff nD τ sig (Elt F) _ .tc) β) (Q : β → sProp 𝕄) :
    iprop((boundary (SparseCore.T d : Thread nD τ) ∗ StableHlo.held (SparseCore.T d : Thread nD τ) (Pipeline.ucRefs τ sig) (V0 m d))
      ∗ ((boundary (SparseCore.T d : Thread nD τ) ∗ StableHlo.held (SparseCore.T d : Thread nD τ) (Pipeline.ucRefs τ sig) (VA m d))
          -∗ wp frame (wpE ((K (F := F)).defs (D (F := F))) 𝒱 (SparseCore.T d) none) Set.univ (k ⟨⟩) Q))
      ⊢ wp frame (wpE ((K (F := F)).defs (D (F := F))) 𝒱 (SparseCore.T d) none) Set.univ (StableHlo.seq opsA >>= k) Q := by
  iintro ⟨H, Hk⟩
  iapply (StableHlo.wp_seq 𝒱 none Set.univ d (Pipeline.ucRefs τ sig) k opsA opsA_sub (List.forall_iff_forall_mem.mp opsA_fresh) (V0 m d)) $$ H
  iexact Hk

set_option backward.isDefEq.respectTransparency.types false in
/-- the operations after the region. -/
theorem seqB_wp (d : Dev nD) (Q : PUnit → sProp 𝕄) :
    iprop((boundary (SparseCore.T d : Thread nD τ) ∗ StableHlo.held (SparseCore.T d : Thread nD τ) (Pipeline.ucRefs τ sig) (VC m d))
      ∗ ((boundary (SparseCore.T d : Thread nD τ) ∗ StableHlo.held (SparseCore.T d : Thread nD τ) (Pipeline.ucRefs τ sig) (VE m d)) -∗ Q ⟨⟩))
      ⊢ wp frame (wpE ((K (F := F)).defs (D (F := F))) 𝒱 (SparseCore.T d) none) Set.univ (StableHlo.seq opsB) Q := by
  rw [← bind_pure (StableHlo.seq opsB)]
  iintro ⟨H, Hk⟩
  iapply (StableHlo.wp_seq 𝒱 none Set.univ d (Pipeline.ucRefs τ sig) pure opsB opsB_sub (List.forall_iff_forall_mem.mp opsB_fresh) (VC m d)) $$ H
  iintro H
  rw [wp_pure]
  imodintro
  iapply Hk
  iexact H

set_option backward.isDefEq.respectTransparency.types false in
/-- The gather: its three buffers handed over, and back with the gathered values. -/
theorem gather_wp (κ : GSem nD τ sig → ℕ) (d : Dev nD) (Q : PUnit → sProp 𝕄) :
    iprop((K (F := F)).ctx EH (PP m) κ ∗ (K (F := F)).tcSt EH d 0 ∗ StableHlo.held (SparseCore.T d : Thread nD τ) (Pipeline.ucRefs τ sig) (VA m d)
        ∗ (((K (F := F)).tcSt EH d 1 ∗ StableHlo.held (SparseCore.T d : Thread nD τ) (Pipeline.ucRefs τ sig) (VB m d)) -∗ Q ⟨⟩))
      ⊢ wp frame (wpE ((K (F := F)).defs (D (F := F))) 𝒱 (SparseCore.T d) none) Set.univ ((K (F := F)).run d 0) Q := by
  rw [held_A, held_B]
  iintro ⟨#Hctx, Hst, ⟨⟨Ht, Hi, Ho⟩, Hrest⟩, Hk⟩
  ihave H := (st_split (tb m) (ix m) (o₀ m) d) $$ [Ht Hi Ho]
  · isplitl [Hi]; · iexact Hi
    isplitl [Ht]; · iexact Ht
    iexact Ho
  icases H with ⟨Hq, Hst0⟩
  iapply ((K (F := F)).wp_run (D (F := F)) 𝒱 (EH := EH) (P := PP m) κ d 0) $$ [Hst Hq Hst0 Hrest Hk]
  isplitr; · iexact Hctx
  isplitl [Hst]; · iexact Hst
  isplitl [Hst0]; · iexact Hst0
  iintro ⟨Hst, Hdn⟩
  ihave H := (dn_join (tb m) (ix m) (o₀ m) d) $$ [Hq Hdn]
  · isplitl [Hq]; · iexact Hq
    iexact Hdn
  icases H with ⟨Hi, Ht, Ho⟩
  iapply Hk
  isplitl [Hst]; · iexact Hst
  isplitr [Hrest]
  · isplitl [Ht]; · iexact Ht
    isplitl [Hi]; · iexact Hi
    iexact Ho
  iexact Hrest

set_option backward.isDefEq.respectTransparency.types false in
/-- The whole of it. -/
theorem hmain [∀ e, Nonempty (Elt F e)] (κ : GSem nD τ sig → ℕ) (d : Dev nD) :
    iprop((K (F := F)).ctx EH (PP m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  rw [main_eq]
  unfold SparseCore.Cfg.tcRes SparseCore.Cfg.tcEnd
  rw [show (unscopedBufs d (fun b => m ((SparseCore.T d : Thread nD τ).loc b)) : sProp 𝕄) = StableHlo.held (SparseCore.T d : Thread nD τ) (Pipeline.ucRefs τ sig) (V0 m d)
    from Pipeline.unscopedBufs_held d (V0 m d)]
  iintro ⟨#Hctx, Hst, ⟨Hb, Hh, Hts, -⟩, Hg⟩
  iapply (seqA_wp m d _ _) $$ [Hst Hb Hh Hts Hg]
  isplitl [Hb Hh]
  · isplitl [Hb]; · iexact Hb
    iexact Hh
  iintro ⟨Hb, Hh⟩
  rw [wp_bind]
  iapply (gather_wp m κ d _) $$ [Hst Hb Hh Hts Hg]
  isplitr; · iexact Hctx
  isplitl [Hst]; · iexact Hst
  isplitl [Hh]; · iexact Hh
  iintro ⟨Hst, Hh⟩
  ihave Hst := (Entails.of_eq (tcSt_one d)) $$ Hst
  icases Hst with ⟨HO, Hr⟩
  rw [wp_bind]
  iapply (region_wp m d _) $$ [HO Hr Hb Hh Hts Hg]
  isplitl [Hts]
  · iintro ⟨Hb, Hp⟩
    ihave Hp := (Entails.of_eq (post_eq m d)) $$ Hp
    icases Hp with ⟨Hh, Hr, HO⟩
    iapply (seqB_wp m d _) $$ [HO Hr Hb Hh Hts]
    isplitl [Hb Hh]
    · isplitl [Hb]; · iexact Hb
      iexact Hh
    iintro ⟨Hb, Hh⟩
    ihave HO := (owes_back d) $$ HO
    isplitl [HO Hr]
    · iapply (Entails.of_eq (tcSt_one d).symm)
      isplitl [HO]; · iexact HO
      iexact Hr
    isplitl [Hh]; · iexact Hh
    isplitl [Hb]; · iexact Hb
    iexact Hts
  isplitl [Hb]; · iexact Hb
  isplitl [Hh Hr HO]
  · iapply (Entails.of_eq (pre_eq m d).symm)
    isplitl [Hh]; · iexact Hh
    isplitl [Hr]; · iexact Hr
    iexact HO
  isplitr; · iapply (SparseCore.Cfg.ctx_levAts κ) $$ Hctx
  iexact Hg

/-- What memory holds on a device at the end. -/
def fq (d : Dev nD) (s' : Phys nD τ sig (Elt F)) : Prop := ∀ b ∈ Pipeline.ucRefs τ sig, s'.mem.mem (d, b) = VE m d b

theorem hfin (d : Dev nD) (s' : Phys nD τ sig (Elt F)) : iprop(FIN m d ∗ SI s') ⊢ (⌜fq m d s'⌝ : sProp 𝕄) := by
  unfold FIN StableHlo.held
  iintro ⟨H, HSI⟩
  ihave %h := (SI_pointsTo_bufs_agree (qs := fun _ => fullShare) (Pipeline.ucRefs τ sig)) $$ [HSI H]
  · isplitl [HSI]; · iexact HSI
    iexact H
  ipureintro
  exact h

/-- The program's end: every buffer outside the kernels' own at its last contents, every semaphore at zero. -/
def QC : PUnit × MemSt nD τ sig (Elt F) → Prop := fun r => (∀ d, ∀ b ∈ Pipeline.ucRefs τ sig, r.2.mem (d, b) = VE m d b) ∧ r.2.sem = fun _ => 0

theorem run_main [∀ e, Nonempty (Elt F e)] (hix : IxOK (ix m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl (tb m) (ix m) (o₀ m) facts hix)
    (fun q _ => match q with | 0 => SparseCore.Cfg.VecSplit.of_plain (vecSplit (tb m) (ix m) (o₀ m)))
    m ρ main G (FIN m) (u₀ (F := F)) (sep_elim_left.trans (hu₀ m)) (hmain m ρ) (fq m) (hfin m) (QC m) (fun _ h hz => ⟨h, hz⟩)

end Cert.Proof.Main

end
-- ==== Proof.Math.Index.lean ====
/-
  The flat position of a target in the table that the gather reads, and its range.
-/
module

public import proofs.«01_k».proof.Proof.Host.Vals
public import proofs.«01_k».proof.Pre_cap_in_vocab
public import proofs.«01_k».proof.Proof.Gen.Pre_cap_in_vocab
public import Idealize.ShloMosaic.Lib.Pointwise
public import Idealize.ShloMosaic.Lib.KernelVsHost

@[expose] public section

noncomputable section

namespace Cert.Proof.Math

open Cert.Proof.Sc Cert.Proof.Tc Cert.Proof.Host
open Cert.KernelIdeal Cert.KernelIdeal.Gen
open Idealize.ShloMosaic

variable {F : FTy → Type} [FloatOps F]

/-- Every word of the captions names a row of the vocabulary. -/
def InVocab (cap : S128x20.Idx → BitVec 32) : Prop := ∀ j, (cap j).toNat < 12000

/-- The target of step `t` of sequence `b` is the next word of its caption. -/
def nextWord (cap : S128x20.Idx → BitVec 32) (b : Fin 128) (t : Fin 19) : BitVec 32 := cap (ix2 b ⟨1 + t.val, by omega⟩)

/-- The position of that target in the table. -/
theorem posOf_word (cap : (⟨S128x20, .i32⟩ : BufTy).Contents (Elt F)) (b : Fin 128) (t : Fin 19) :
    (show BitVec 32 from posOf (F := F) cap (ix2 b t)) = BitVec.ofNat 32 t.val * 1536000#32 + nextWord cap b t * 128#32 + BitVec.ofNat 32 b.val := by
  show posOf (F := F) cap (ix2 b t) = _
  pointwise [posOf, nextWord]
  rfl

theorem posOf_toNat (cap : (⟨S128x20, .i32⟩ : BufTy).Contents (Elt F)) (h : InVocab cap) (b : Fin 128) (t : Fin 19) :
    (show BitVec 32 from posOf (F := F) cap (ix2 b t)).toNat = t.val * 1536000 + (nextWord cap b t).toNat * 128 + b.val := by
  have hw : (nextWord cap b t).toNat < 12000 := h _
  have hb := b.isLt
  have ht := t.isLt
  rw [posOf_word]
  simp only [BitVec.toNat_add, BitVec.toNat_mul, BitVec.toNat_ofNat, Nat.reducePow, Nat.reduceMod]
  omega

/-- Row `w`, column `j` of the gather's indices: the position of target `w * 76 + j`, counted sequence by sequence, or 0 in a padded column. -/
theorem ixOf_word (cap : (⟨S128x20, .i32⟩ : BufTy).Contents (Elt F)) (w : Fin 32) (j : Fin 80) :
    ixOf (F := F) cap (ix2 w j) = if h : j.val < 76 then posOf (F := F) cap (ix2 ⟨w.val * 4 + j.val / 19, by omega⟩ ⟨j.val % 19, by omega⟩) else (0#32 : BitVec 32) := by
  pointwise [ixOf]

theorem ixOf_lt (cap : (⟨S128x20, .i32⟩ : BufTy).Contents (Elt F)) (h : InVocab cap) (j : S32x80.Idx) :
    (show BitVec 32 from ixOf (F := F) cap j).toNat < 29184000 := by
  rw [eq_ix2 j]
  have e := ixOf_word (F := F) cap (j 0) (j 1)
  by_cases hj : (j 1).val < 76
  · have e' : (show BitVec 32 from ixOf (F := F) cap (ix2 (j 0) (j 1))) = _ := e.trans (dif_pos hj)
    have hw := (j 0).isLt
    have p := posOf_toNat (F := F) cap h ⟨(j 0).val * 4 + (j 1).val / 19, by change (j 0).val < 32 at hw; omega⟩ ⟨(j 1).val % 19, by omega⟩
    have q : (nextWord cap ⟨(j 0).val * 4 + (j 1).val / 19, by change (j 0).val < 32 at hw; omega⟩ ⟨(j 1).val % 19, by omega⟩).toNat < 12000 := h _
    rw [e']
    refine lt_of_eq_of_lt p ?_
    change (j 0).val < 32 at hw
    simp only
    omega
  · have e' : (show BitVec 32 from ixOf (F := F) cap (ix2 (j 0) (j 1))) = _ := e.trans (dif_neg hj)
    rw [e']
    decide

/-- The table at a position: the logit it was made of. -/
theorem tabOf_flat (x : (⟨S128x19x12000, .f32⟩ : BufTy).Contents (Elt F)) (b : Fin 128) (t : Fin 19) (v : Fin 12000) :
    tabOf (F := F) x (flatIx (t.val * 1536000 + v.val * 128 + b.val)) = x (ix3 b t v) := by
  have hb := b.isLt
  have ht := t.isLt
  have hv := v.isLt
  have e : flatIx (t.val * 1536000 + v.val * 128 + b.val) = ix1 ⟨t.val * 1536000 + v.val * 128 + b.val, by omega⟩ := by
    funext a
    match a with
    | ⟨0, _⟩ => exact Fin.ext (Nat.mod_eq_of_lt (by show _ < 29184000; omega))
  rw [e]
  pointwise [tabOf, xOf]

/-! ## From the preconditions -/

theorem andi_ofBool (p q : Bool) : IntOp.andi (BitVec.ofBool p) (BitVec.ofBool q) = BitVec.ofBool (p && q) := by
  cases p <;> cases q <;> decide

theorem ofBool_eq_one (p : Bool) : (BitVec.ofBool p = 1#1) ↔ p = true := by cases p <;> decide

theorem andi_eq_one (a b : BitVec 1) : IntOp.andi a b = 1#1 ↔ a = 1#1 ∧ b = 1#1 := by
  revert a b; decide

theorem range_of_word (v : BitVec 32) (e : IntOp.andi (IntOp.cmpi .sge v 0#32) (IntOp.cmpi .slt v 12000#32) = 1#1) : v.toNat < 12000 := by
  simp only [IntOp.cmpi, andi_ofBool, ofBool_eq_one, Bool.and_eq_true, BitVec.sle_eq_decide, BitVec.slt_eq_decide, decide_eq_true_eq, BitVec.toInt_eq_toNat_cond, BitVec.toNat_ofNat, Nat.reducePow, Nat.reduceMod] at e
  omega

theorem inVocab_of_pre (x : FVec F S128x19x12000 .f32) (a b c d : FVec F S128x512 .f32) (cap : IVec S128x20 32) (l : IVec S128 32) (w : FVec F S128 .f32)
    (h : Cert.Pre_cap_in_vocab.fn x a b c d cap l w = fun _ => 1#1) : InVocab cap := by
  intro j
  have e := congrFun h j
  simp only [Cert.Pre_cap_in_vocab.fn, andi, cmpi, broadcastInDim, constantI] at e
  exact range_of_word _ e

/-- So the gather names only places of its table. -/
theorem ixOK_of (m : (ℓ : Loc nD τ sig) → Buf (Elt F) ℓ)
    (h : ∀ c : Dev nD, InVocab (m ((c.tc : Thread nD τ).loc main_arg5))) : IxOK (ix m) := by
  intro d j
  have e : VA m d (Proc.devRef .tc main_v19) = ixOf (F := F) (m ((d.tc : Thread nD τ).loc main_arg5)) := after_v19 _
  show (show BitVec 32 from VA m d (Proc.devRef .tc main_v19) j).toNat < _
  rw [e]
  exact ixOf_lt _ (h d) j

end Cert.Proof.Math

end
-- ==== Proof.Same.lean ====
/-
  The kernel and its idealization have one text: their programs are equal, part by part.
-/
module

public import proofs.«01_k».proof.Proof.Gen.Kernel
public import proofs.«01_k».proof.Proof.Gen.KernelIdeal
public import proofs.«01_k».proof.Defs

@[expose] public section

set_option maxHeartbeats 4000000

noncomputable section

namespace Cert.Proof.Same

open Idealize.ShloMosaic Idealize.SL.Sem

/-- The TensorCore kernel's body, -/
theorem tc_body : @Cert.Kernel.cc1__tc_body Bits _ Cert.Kernel.Gen.facts = @Cert.KernelIdeal.cc1__tc_body Bits _ Cert.KernelIdeal.Gen.facts := rfl

/-- the kernels' body table, -/
theorem bodies : Cert.Kernel.defs₀ (F := Bits) = Cert.KernelIdeal.defs₀ (F := Bits) := by
  funext p l a
  cases p with
  | tc =>
    match l, a with
    | 0, a => rfl
    | 1, (t, s) =>
      unfold Cert.Kernel.defs₀ Cert.KernelIdeal.defs₀
      simp only [tc_body]
      rfl
  | scScalar c => rfl
  | scVector c s =>
    match l, a with
    | 0, a => rfl
    | 1, (t, s) => rfl

/-- the whole table, -/
theorem table : Cert.Kernel.defs (F := Bits) = Cert.KernelIdeal.defs (F := Bits) := by
  have e1 : Pipeline.defs Cert.Kernel.pcfgs (Cert.Kernel.defs₀ (F := Bits)) = Pipeline.defs Cert.Kernel.pcfgs (Cert.KernelIdeal.defs₀ (F := Bits)) := congrArg _ bodies
  have e2 := congrArg ((Cert.Kernel.sc (F := Bits)).defs) e1
  unfold Cert.Kernel.defs Cert.KernelIdeal.defs
  exact e2

theorem bind_same {E : Type → Type} {A B : Type} {x y : Prog E A} {f g : A → Prog E B} (h : x = y) (k : ∀ a, f a = g a) : x >>= f = y >>= g := by
  rw [h, funext k]

/-- the host program, step by step, -/
theorem host : Cert.Kernel.main (F := Bits) = Cert.KernelIdeal.main (F := Bits) := by
  funext d
  unfold Cert.Kernel.main Cert.KernelIdeal.main
  iterate 35 refine bind_same rfl fun _ => ?_
  rfl

/-- and every thread of the machine. -/
theorem threads : Cert.Kernel.threads (F := Bits) = Cert.KernelIdeal.threads (F := Bits) :=
  congrArg (fun z => (Cert.Kernel.sc (F := Bits)).threads z) host

end Cert.Proof.Same

end
-- ==== Proof.Frames.lean ====
/-
  The frames: the kernel and its reference leave their arguments as they were, and every counter at zero.
-/
module

public import proofs.«01_k».proof.Proof.Run
public import proofs.«01_k».proof.Proof.Math.Index
public import proofs.«01_k».proof.Proof.Same
public import proofs.«01_k».proof.Defs
public import proofs.«01_k».proof.Proof.Gen.Kernel
public import proofs.«01_k».proof.Proof.Gen.ReferenceIdeal
public import proofs.«01_k».proof.Proof.Gen.ReferenceIdeal.Run

@[expose] public section

noncomputable section

namespace Cert.Proof.Main

open Cert.Proof.Sc Cert.Proof.Tc Cert.Proof.Host Cert.Proof.Math
open Idealize.ShloMosaic Idealize.SL.Sem

section Args

open Cert.KernelIdeal Cert.KernelIdeal.Gen

variable {F : FTy → Type} [FloatOps F] (m : (ℓ : Loc nD τ sig) → Buf (Elt F) ℓ)

/-- What the run leaves in the arguments. -/
theorem args_of {r : PUnit × MemSt nD τ sig (Elt F)} (h : QC m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7) :=
  ⟨(h.1 c _ (Finset.mem_filter.mpr ⟨StableHlo.devRef_mem_tcRefs main_arg0, by decide⟩)).trans (VE_arg0 m c),
   (h.1 c _ (Finset.mem_filter.mpr ⟨StableHlo.devRef_mem_tcRefs main_arg1, by decide⟩)).trans (VE_arg1 m c),
   (h.1 c _ (Finset.mem_filter.mpr ⟨StableHlo.devRef_mem_tcRefs main_arg2, by decide⟩)).trans (VE_arg2 m c),
   (h.1 c _ (Finset.mem_filter.mpr ⟨StableHlo.devRef_mem_tcRefs main_arg3, by decide⟩)).trans (VE_arg3 m c),
   (h.1 c _ (Finset.mem_filter.mpr ⟨StableHlo.devRef_mem_tcRefs main_arg4, by decide⟩)).trans (VE_arg4 m c),
   (h.1 c _ (Finset.mem_filter.mpr ⟨StableHlo.devRef_mem_tcRefs main_arg5, by decide⟩)).trans (VE_arg5 m c),
   (h.1 c _ (Finset.mem_filter.mpr ⟨StableHlo.devRef_mem_tcRefs main_arg6, by decide⟩)).trans (VE_arg6 m c),
   (h.1 c _ (Finset.mem_filter.mpr ⟨StableHlo.devRef_mem_tcRefs main_arg7, by decide⟩)).trans (VE_arg7 m c)⟩

end Args

set_option maxHeartbeats 4000000 in
/-- The kernel and its idealization have one text: the run of the one, over machine words, is the run of the other. -/
theorem frame_kernel : Cert.quiescent_Kernel := by
  intro m ρ hpre
  have h := (θ_run (Cert.KernelIdeal.defs (F := Bits)) _ _).mono (fun _ h => (⟨args_of (F := Bits) m h, h.2⟩ : _ ∧ _))
    (run_main (F := Bits) m ρ (ixOK_of (F := Bits) m fun c => inVocab_of_pre _ _ _ _ _ _ _ _ (hpre c)))
  rw [Cert.Proof.Same.table, Cert.Proof.Same.threads]
  exact h

theorem frame_ideal : Cert.quiescent_KernelIdeal := fun m ρ hpre =>
  (θ_run (Cert.KernelIdeal.defs (F := Ideal)) _ _).mono (fun _ h => ⟨args_of (F := Ideal) m h, h.2⟩)
    (run_main (F := Ideal) m ρ (ixOK_of (F := Ideal) m fun c => inVocab_of_pre _ _ _ _ _ _ _ _ (hpre c)))

theorem frame_reference : Cert.quiescent_ReferenceIdeal := fun m ρ _ =>
  (θ_run (Cert.ReferenceIdeal.defs (F := Ideal)) _ _).mono
    (fun r h => ⟨fun c => (h c).2.2, Idealize.ShloMosaic.sem_eq_zero_of_no_sems (by decide) r.2⟩)
    (Cert.ReferenceIdeal.Value.run (F := Ideal) m ρ)

end Cert.Proof.Main

end
-- ==== Proof.FramesFinite.lean ====
/-
  The frames once more, under the precondition of the value claim.
-/
module

public import proofs.«01_k».proof.Proof.Frames
public import proofs.«01_k».proof.Proof.Gen.Pre_cap_in_vocab_and_finite

@[expose] public section

noncomputable section

namespace Cert.Proof.Main

open Cert.Proof.Sc Cert.Proof.Tc Cert.Proof.Host Cert.Proof.Math
open Idealize.ShloMosaic Idealize.SL.Sem

section Words

open Cert.KernelIdeal Cert.KernelIdeal.Gen

variable {F : FTy → Type} [FloatOps F]

theorem inVocab_of_pre' (x : FVec F S128x19x12000 .f32) (a b c d : FVec F S128x512 .f32) (cap : IVec S128x20 32) (l : IVec S128 32) (w : FVec F S128 .f32)
    (h : Cert.Pre_cap_in_vocab_and_finite.fn x a b c d cap l w = fun _ => 1#1) : InVocab cap := by
  intro j
  have e := congrFun h j
  simp only [Cert.Pre_cap_in_vocab_and_finite.fn, andi, cmpi, broadcastInDim, constantI] at e
  exact range_of_word _ ((andi_eq_one _ _).1 ((andi_eq_one _ _).1 e).1).1

end Words

theorem frame_ideal_finite : Cert.quiescent_KernelIdeal_pre_cap_in_vocab_and_finite := fun m ρ hpre =>
  (θ_run (Cert.KernelIdeal.defs (F := Ideal)) _ _).mono (fun _ h => ⟨args_of (F := Ideal) m h, h.2⟩)
    (run_main (F := Ideal) m ρ (ixOK_of (F := Ideal) m fun c => inVocab_of_pre' _ _ _ _ _ _ _ _ (hpre c)))

theorem frame_reference_finite : Cert.quiescent_ReferenceIdeal_pre_cap_in_vocab_and_finite := fun m ρ _ =>
  (θ_run (Cert.ReferenceIdeal.defs (F := Ideal)) _ _).mono
    (fun r h => ⟨fun c => (h c).2.2, Idealize.ShloMosaic.sem_eq_zero_of_no_sems (by decide) r.2⟩)
    (Cert.ReferenceIdeal.Value.run (F := Ideal) m ρ)

end Cert.Proof.Main

end
-- ==== Proof.Math.Blocks.lean ====
/-
  The blocks of the TensorCore call's operands, read at an entry.
-/
module

public import proofs.«01_k».proof.Proof.Host.Vals
public import Idealize.ShloMosaic.Lib.Pointwise
public import Idealize.ShloMosaic.Lib.KernelVsHost

@[expose] public section

noncomputable section

namespace Cert.Proof.Math

open Cert.Proof.Sc Cert.Proof.Tc Cert.Proof.Host
open Cert.KernelIdeal Cert.KernelIdeal.Gen
open Idealize.ShloMosaic
open Idealize.ShloMosaic.Pipeline (Dat Cfg Window BodyObligation)

variable {F : FTy → Type} [FloatOps F]
variable (V : (c : Dev nD) → (b : Ref sig .tc) → Buf (Elt F) ((SparseCore.T c : Thread nD τ).loc b)) (c : Dev nD) (t : Fin cfg1.N)

theorem at_0 : ∀ t : Fin cfg1.N, win1_0.index t = ![(grid1.coords t 0).val, 0, 0] := (by decide +kernel : ∀ t : Fin grid1.N, _)

theorem iblk0_at (v : Fin 12000) (b : Fin 128) :
    iblk V c 0 t (ix3 0 v b) = V c main_v0 (ix3 (grid1.coords t 0) v b) := by
  show V c main_v0 (((cfg1.win 0).blk t).view.emb (ix3 0 v b)) = _
  refine congrArg (V c main_v0) ?_
  blk_ext [at_0]

theorem at_1 : ∀ t : Fin cfg1.N, win1_1.index t = ![0, 0] := (by decide +kernel : ∀ t : Fin grid1.N, _)

theorem iblk1_at (r : Fin 1) (j : Fin 128) : iblk V c 1 t (ix2 r j) = V c main_v2 (ix2 r j) := by
  show V c main_v2 (((cfg1.win 1).blk t).view.emb (ix2 r j)) = _
  refine congrArg (V c main_v2) ?_
  blk_ext [at_1]

theorem at_2 : ∀ t : Fin cfg1.N, win1_2.index t = ![0, 0] := (by decide +kernel : ∀ t : Fin grid1.N, _)

theorem iblk2_at (r : Fin 1) (j : Fin 128) : iblk V c 2 t (ix2 r j) = V c main_v3 (ix2 r j) := by
  show V c main_v3 (((cfg1.win 2).blk t).view.emb (ix2 r j)) = _
  refine congrArg (V c main_v3) ?_
  blk_ext [at_2]

theorem at_3 : ∀ t : Fin cfg1.N, win1_3.index t = ![0, 0] := (by decide +kernel : ∀ t : Fin grid1.N, _)

theorem iblk3_at (r : Fin 32) (j : Fin 80) : iblk V c 3 t (ix2 r j) = V c main_v28 (ix2 r j) := by
  show V c main_v28 (((cfg1.win 3).blk t).view.emb (ix2 r j)) = _
  refine congrArg (V c main_v28) ?_
  blk_ext [at_3]

theorem at_4 : ∀ t : Fin cfg1.N, win1_4.index t = ![0, 0] := (by decide +kernel : ∀ t : Fin grid1.N, _)

theorem iblk4_at (r : Fin 32) (j : Fin 80) : iblk V c 4 t (ix2 r j) = V c main_v23 (ix2 r j) := by
  show V c main_v23 (((cfg1.win 4).blk t).view.emb (ix2 r j)) = _
  refine congrArg (V c main_v23) ?_
  blk_ext [at_4]

theorem at_5 : ∀ t : Fin cfg1.N, win1_5.index t = ![0, 0] := (by decide +kernel : ∀ t : Fin grid1.N, _)

theorem iblk5_at (r : Fin 32) (j : Fin 80) : iblk V c 5 t (ix2 r j) = V c main_v27 (ix2 r j) := by
  show V c main_v27 (((cfg1.win 5).blk t).view.emb (ix2 r j)) = _
  refine congrArg (V c main_v27) ?_
  blk_ext [at_5]

theorem at_6 : ∀ t : Fin cfg1.N, win1_6.index t = ![0, 0] := (by decide +kernel : ∀ t : Fin grid1.N, _)

theorem iblk6_at (r : Fin 128) (j : Fin 512) : iblk V c 6 t (ix2 r j) = V c main_arg1 (ix2 r j) := by
  show V c main_arg1 (((cfg1.win 6).blk t).view.emb (ix2 r j)) = _
  refine congrArg (V c main_arg1) ?_
  blk_ext [at_6]

theorem at_7 : ∀ t : Fin cfg1.N, win1_7.index t = ![0, 0] := (by decide +kernel : ∀ t : Fin grid1.N, _)

theorem iblk7_at (r : Fin 128) (j : Fin 512) : iblk V c 7 t (ix2 r j) = V c main_arg2 (ix2 r j) := by
  show V c main_arg2 (((cfg1.win 7).blk t).view.emb (ix2 r j)) = _
  refine congrArg (V c main_arg2) ?_
  blk_ext [at_7]

theorem at_8 : ∀ t : Fin cfg1.N, win1_8.index t = ![0, 0] := (by decide +kernel : ∀ t : Fin grid1.N, _)

theorem iblk8_at (r : Fin 128) (j : Fin 512) : iblk V c 8 t (ix2 r j) = V c main_arg3 (ix2 r j) := by
  show V c main_arg3 (((cfg1.win 8).blk t).view.emb (ix2 r j)) = _
  refine congrArg (V c main_arg3) ?_
  blk_ext [at_8]

theorem at_9 : ∀ t : Fin cfg1.N, win1_9.index t = ![0, 0] := (by decide +kernel : ∀ t : Fin grid1.N, _)

theorem iblk9_at (r : Fin 128) (j : Fin 512) : iblk V c 9 t (ix2 r j) = V c main_arg4 (ix2 r j) := by
  show V c main_arg4 (((cfg1.win 9).blk t).view.emb (ix2 r j)) = _
  refine congrArg (V c main_arg4) ?_
  blk_ext [at_9]

end Cert.Proof.Math

end
-- ==== Proof.Math.Pay.lean ====
/-
  What the TensorCore body computes at a grid point, as sums over the extended reals.
-/
module

public import proofs.«01_k».proof.Proof.Gen.KernelIdeal
public import proofs.«01_k».proof.Proof.Gen.KernelIdeal.Skeleton
public import Idealize.ShloMosaic.Lib.Pointwise

@[expose] public section

noncomputable section

namespace Cert.Proof.Math

open Cert.KernelIdeal Cert.KernelIdeal.Gen
open Idealize.ShloMosaic

/-- Step `t` lies within a sequence of (word) length `l`. -/
def within (t : ℕ) (l : BitVec 32) : BitVec 1 := IntOp.cmpi .slt (BitVec.ofNat 32 t) (IntOp.subi l 1#32)

/-- One element's share of the second loss, as the kernel writes it. -/
def klTerm (mu s2 mup s2p : EReal) : EReal :=
  1 + s2 - s2p - Ideal.exp (s2 - s2p) - (mu - mup) * (mu - mup) * Ideal.exp (0 - s2p)

theorem pay4_eq (mu s2 mup s2p : Vec Ideal S128x512 .f32) :
    k1_pay4 (F := Ideal) mu s2 mup s2p
      = Ideal.div (Ideal.ofBits FTy.f32 0xBF000000#32 * ∑ b : Fin 128, ∑ k : Fin 512, klTerm (mu (ix2 b k)) (s2 (ix2 b k)) (mup (ix2 b k)) (s2p (ix2 b k)))
          (Ideal.ofBits FTy.f32 0x43000000#32) := by
  pointwise [k1_pay4, klTerm]

theorem pay5_eq (i : grid1.Coords) (v0 : Vec Ideal S1x12000x128 .f32) (v5 : Vec Ideal S1x128 .f32) (v7 : Vec Ideal S1x128 .i32) (acc : Ideal .f32) :
    k1_pay5 (F := Ideal) i v0 v5 v7 acc
      = acc + ∑ b : Fin 128, Scalar.select (within (i 0).val (v7 (ix2 0 b)))
          (Ideal.log (∑ v : Fin 12000, Ideal.exp (v0 (ix3 0 v b))) * v5 (ix2 0 b)) 0 := by
  pointwise [k1_pay5, k1_pay3, within]

theorem pay6_eq (i : grid1.Coords) (v7 : Vec Ideal S1x128 .i32) (acc : Ideal .f32) :
    k1_pay6 (F := Ideal) i v7 acc = acc + ∑ b : Fin 128, Scalar.select (within (i 0).val (v7 (ix2 0 b))) (1 : EReal) 0 := by
  pointwise [k1_pay6, k1_pay3, within]

/-- The step of target `j` of row `w`, as the kernel computes it with words. -/
def stepWord (w j : ℕ) : BitVec 32 :=
  let r := IntOp.remsi .vector (IntOp.addi (IntOp.muli (BitVec.ofNat 32 w) 76#32) (BitVec.ofNat 32 j)) (Scalar.select (Scalar.cmpi .eq 19#32 0#32) 1#32 19#32)
  let n := Scalar.select (Scalar.cmpi .eq 19#32 0#32) 1#32 19#32
  Scalar.select (IntOp.andi (IntOp.xori (IntOp.cmpi .slt r 0#32) (Scalar.cmpi .slt n 0#32)) (IntOp.cmpi .ne r 0#32)) (IntOp.addi r n) r

theorem stepWord_eq : ∀ (w : Fin 32) (j : Fin 80), stepWord w.val j.val = BitVec.ofNat 32 ((w.val * 76 + j.val) % 19) := by
  decide +kernel

theorem pay2_eq (p : Vec Ideal S32x80 .f32) (l : Vec Ideal S32x80 .i32) (w : Vec Ideal S32x80 .f32) (acc : Ideal .f32) :
    k1_pay2 (F := Ideal) p l w acc
      = (∑ r : Fin 32, ∑ j : Fin 80, Scalar.select (IntOp.andi (IntOp.cmpi .slt (BitVec.ofNat 32 j.val) 76#32) (IntOp.cmpi .slt (stepWord r.val j.val) (IntOp.subi (l (ix2 r j)) 1#32)))
          (p (ix2 r j) * w (ix2 r j)) 0) - acc := by
  pointwise [k1_pay2, stepWord]

theorem pay1_eq (x y : Ideal .f32) : k1_pay1 (F := Ideal) x y = Ideal.div (0 - x) y := by
  pointwise [k1_pay1]

end Cert.Proof.Math

end
-- ==== Proof.Math.Real.lean ====
/-
  The two losses over the extended reals: what makes the kernel's formulas and the reference's equal.
-/
module

public import Idealize.ShloMosaic.Lib.Pointwise

@[expose] public section

noncomputable section

namespace Cert.Proof.Math

open Idealize.ShloMosaic

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The logarithm of a softmax: less the greatest logit, or any other finite value, or none at all. -/
theorem log_softmax {n : ℕ} (hn : 0 < n) (x : Fin n → ℝ) (M : ℝ) (v : Fin n) :
    ((x v : ℝ) : EReal) - (M : EReal) - Ideal.log (∑ u : Fin n, Ideal.exp (((x u : ℝ) : EReal) - (M : EReal)))
      = ((x v - Real.log (∑ u : Fin n, Real.exp (x u)) : ℝ) : EReal) := by
  have hp : 0 < ∑ u : Fin n, Real.exp (x u) := Finset.sum_pos (fun u _ => Real.exp_pos _) ⟨⟨0, hn⟩, Finset.mem_univ _⟩
  have e1 : (∑ u : Fin n, Ideal.exp (((x u : ℝ) : EReal) - (M : EReal))) = ((∑ u : Fin n, Real.exp (x u - M) : ℝ) : EReal) := by
    rw [coe_sum]
    exact Finset.sum_congr rfl fun u _ => by rw [← EReal.coe_sub, Ideal.exp_coe]
  have e2 : (∑ u : Fin n, Real.exp (x u - M)) = (∑ u : Fin n, Real.exp (x u)) * Real.exp (-M) := by
    rw [Finset.sum_mul]
    exact Finset.sum_congr rfl fun u _ => by rw [← Real.exp_add, sub_eq_add_neg]
  have hq : 0 < (∑ u : Fin n, Real.exp (x u)) * Real.exp (-M) := mul_pos hp (Real.exp_pos _)
  rw [e1, e2, Ideal.log_coe, if_neg (not_le.mpr hq), ← EReal.coe_sub, ← EReal.coe_sub, Real.log_mul hp.ne' (Real.exp_pos _).ne', Real.log_exp]
  congr 1
  ring

/-- The logarithm of a sum of exponentials of finite logits. -/
theorem log_sum_exp {n : ℕ} (hn : 0 < n) (x : Fin n → ℝ) :
    Ideal.log (∑ u : Fin n, Ideal.exp ((x u : ℝ) : EReal)) = ((Real.log (∑ u : Fin n, Real.exp (x u)) : ℝ) : EReal) := by
  have hp : 0 < ∑ u : Fin n, Real.exp (x u) := Finset.sum_pos (fun u _ => Real.exp_pos _) ⟨⟨0, hn⟩, Finset.mem_univ _⟩
  have e1 : (∑ u : Fin n, Ideal.exp ((x u : ℝ) : EReal)) = ((∑ u : Fin n, Real.exp (x u) : ℝ) : EReal) := by
    rw [coe_sum]
    exact Finset.sum_congr rfl fun u _ => by rw [Ideal.exp_coe]
  rw [e1, Ideal.log_coe, if_neg (not_le.mpr hp)]

/-- One element's share of the second loss, as the kernel writes it. -/
def klKernel (mu s2 mup s2p : EReal) : EReal :=
  1 + s2 - s2p - Ideal.exp (s2 - s2p) - (mu - mup) * (mu - mup) * Ideal.exp (0 - s2p)

/-- One element's share of the second loss, as the reference writes it. -/
def klReference (mu s2 mup s2p : EReal) : EReal :=
  1 + s2 - s2p - Ideal.div (Ideal.exp s2) (Ideal.exp s2p) - Ideal.div ((mu - mup) * (mu - mup)) (Ideal.exp s2p)

theorem mul_self_ne_bot (d : EReal) : d * d ≠ ⊥ := by
  induction d with
  | bot => simp
  | top => simp
  | coe r => rw [← EReal.coe_mul]; exact EReal.coe_ne_bot _

/-- The two agree at every extended value. -/
theorem kl_eq (mu s2 mup s2p : EReal) : klKernel mu s2 mup s2p = klReference mu s2 mup s2p := by
  unfold klKernel klReference
  generalize hd : (mu - mup) * (mu - mup) = d
  have hd' : d ≠ ⊥ := hd ▸ mul_self_ne_bot _
  have h0 : 0 ≤ d := by
    rw [← hd]
    generalize mu - mup = e
    induction e with
    | bot => simp
    | top => simp
    | coe r => rw [← EReal.coe_mul]; exact_mod_cast mul_self_nonneg r
  clear hd
  induction s2p with
  | bot =>
    have h1 : Ideal.exp (⊥ : EReal) = 0 := rfl
    have h2 : Ideal.exp (⊤ : EReal) = ⊤ := rfl
    induction s2 with
    | bot => simp
    | top =>
      rw [h1, h2, Ideal.div, if_pos rfl, if_pos EReal.zero_lt_top]
      simp [h2]
    | coe r =>
      have h3 : (0 : EReal) < Ideal.exp ((r : ℝ) : EReal) := by rw [Ideal.exp_coe]; exact_mod_cast Real.exp_pos r
      have h4 : ∀ r : ℝ, ((r : ℝ) : EReal) - ⊥ = ⊤ := fun r => by simp
      have h5 : 1 + ((r : ℝ) : EReal) - ⊥ = ⊤ := by
        have e : 1 + ((r : ℝ) : EReal) = ((1 + r : ℝ) : EReal) := by rw [EReal.coe_add]; rfl
        rw [e, h4]
      rw [h1, h4, h5, h2, Ideal.div, if_pos rfl, if_pos h3]
      simp
  | top =>
    have h1 : ∀ a : EReal, a - ⊤ = ⊥ := fun a => by rw [sub_eq_add_neg]; simp
    rw [h1]
    simp
  | coe p =>
    have hp : Ideal.exp ((p : ℝ) : EReal) = ((Real.exp p : ℝ) : EReal) := Ideal.exp_coe _
    have hn : Ideal.exp (0 - ((p : ℝ) : EReal)) = ((Real.exp p)⁻¹ : ℝ) := by
      rw [zero_sub, ← EReal.coe_neg, Ideal.exp_coe, Real.exp_neg]
    have hne : ((Real.exp p : ℝ) : EReal) ≠ 0 := by exact_mod_cast (Real.exp_pos p).ne'
    have e2 : Ideal.div d (Ideal.exp ((p : ℝ) : EReal)) = d * Ideal.exp (0 - ((p : ℝ) : EReal)) := by
      rw [hn, hp, Ideal.div, if_neg hne, EReal.coe_inv]
    have e1 : Ideal.div (Ideal.exp s2) (Ideal.exp ((p : ℝ) : EReal)) = Ideal.exp (s2 - ((p : ℝ) : EReal)) := by
      rw [hp, Ideal.div, if_neg hne, ← EReal.coe_inv]
      induction s2 with
      | bot => simp
      | top =>
        simp only [EReal.top_sub_coe]
        exact EReal.top_mul_coe_of_pos (inv_pos.mpr (Real.exp_pos p))
      | coe r => rw [← EReal.coe_sub, Ideal.exp_coe, Ideal.exp_coe, ← EReal.coe_mul, ← Real.exp_neg, ← Real.exp_add, sub_eq_add_neg]
    rw [e1, e2]

theorem select_real (p : BitVec 1) (a : ℝ) : Scalar.select p ((a : ℝ) : EReal) 0 = (((p.toNat : ℝ) * a : ℝ) : EReal) := by
  have h : p = 0#1 ∨ p = 1#1 := by revert p; decide
  rcases h with rfl | rfl
  · show (0 : EReal) = _
    simp
  · show ((a : ℝ) : EReal) = _
    simp

theorem uitofp_bit (p : BitVec 1) : FloatOps.uitofp (F := Ideal) .f32 p = ((p.toNat : ℝ) : EReal) := rfl

/-- The first loss: `X` the logits, `W` the weights, `g` the targets, `p` the bits of the steps that count, and `M` any finite
    number for each step. On the left the logarithms' sum is taken apart from the picked logits', as the kernel does. -/
theorem ce_eq {B T N : ℕ} (hN : 0 < N) (X : Fin B → Fin T → Fin N → ℝ) (W : Fin B → ℝ) (g : Fin B → Fin T → Fin N) (p : Fin B → Fin T → BitVec 1) (M : Fin B → Fin T → ℝ) :
    Ideal.div (0 - ((∑ b : Fin B, ∑ t : Fin T, Scalar.select (p b t) (((X b t (g b t) : ℝ) : EReal) * ((W b : ℝ) : EReal)) 0)
        - ∑ t : Fin T, ∑ b : Fin B, Scalar.select (p b t) (Ideal.log (∑ v : Fin N, Ideal.exp ((X b t v : ℝ) : EReal)) * ((W b : ℝ) : EReal)) 0))
        (∑ t : Fin T, ∑ b : Fin B, Scalar.select (p b t) (1 : EReal) 0)
      = Ideal.div (-∑ b : Fin B, ∑ t : Fin T, ((((X b t (g b t) : ℝ) : EReal) - ((M b t : ℝ) : EReal)
              - Ideal.log (∑ u : Fin N, Ideal.exp (((X b t u : ℝ) : EReal) - ((M b t : ℝ) : EReal)))) * ((W b : ℝ) : EReal)) * FloatOps.uitofp (F := Ideal) .f32 (p b t))
          (∑ b : Fin B, ∑ t : Fin T, FloatOps.uitofp (F := Ideal) .f32 (p b t)) := by
  have h1 : ∀ (b : Fin B) (t : Fin T), Scalar.select (p b t) (((X b t (g b t) : ℝ) : EReal) * ((W b : ℝ) : EReal)) 0
      = ((((p b t).toNat : ℝ) * (X b t (g b t) * W b) : ℝ) : EReal) := fun b t => by rw [← EReal.coe_mul, select_real]
  have h2 : ∀ (b : Fin B) (t : Fin T), Scalar.select (p b t) (Ideal.log (∑ v : Fin N, Ideal.exp ((X b t v : ℝ) : EReal)) * ((W b : ℝ) : EReal)) 0
      = ((((p b t).toNat : ℝ) * (Real.log (∑ u : Fin N, Real.exp (X b t u)) * W b) : ℝ) : EReal) := fun b t => by
    rw [log_sum_exp hN, ← EReal.coe_mul, select_real]
  have h3 : ∀ (b : Fin B) (t : Fin T), Scalar.select (p b t) (1 : EReal) 0 = (((p b t).toNat : ℝ) : EReal) := fun b t =>
    (select_real (p b t) 1).trans (by rw [mul_one])
  have h4 : ∀ (b : Fin B) (t : Fin T), ((((X b t (g b t) : ℝ) : EReal) - ((M b t : ℝ) : EReal)
              - Ideal.log (∑ u : Fin N, Ideal.exp (((X b t u : ℝ) : EReal) - ((M b t : ℝ) : EReal)))) * ((W b : ℝ) : EReal)) * (((p b t).toNat : ℝ) : EReal)
      = (((X b t (g b t) - Real.log (∑ u : Fin N, Real.exp (X b t u))) * W b * ((p b t).toNat : ℝ) : ℝ) : EReal) := fun b t => by
    rw [log_softmax hN, ← EReal.coe_mul, ← EReal.coe_mul]
  simp only [uitofp_bit]
  simp only [h1, h2, h3, h4, ← coe_sum]
  rw [Finset.sum_comm (f := fun (b : Fin B) (t : Fin T) => ((p b t).toNat : ℝ))]
  congr 1
  rw [zero_sub, ← EReal.coe_sub, ← EReal.coe_neg, ← EReal.coe_neg]
  congr 1
  rw [Finset.sum_comm (s := (Finset.univ : Finset (Fin T))), ← Finset.sum_sub_distrib]
  congr 1
  refine Finset.sum_congr rfl fun b _ => ?_
  rw [← Finset.sum_sub_distrib]
  exact Finset.sum_congr rfl fun t _ => by ring

end Cert.Proof.Math

end
-- ==== Proof.Math.Sums.lean ====
/-
  The sums that the TensorCore body accumulates, over sequences and steps.
-/
module

public import proofs.«01_k».proof.Proof.Math.Blocks
public import proofs.«01_k».proof.Proof.Math.Index
public import proofs.«01_k».proof.Proof.Math.Pay
public import proofs.«01_k».proof.Proof.Math.Real
public import Idealize.ShloMosaic.Lib.Pointwise
public import Idealize.ShloMosaic.Lib.KernelVsHost

@[expose] public section

noncomputable section

namespace Cert.Proof.Math

open Cert.Proof.Sc Cert.Proof.Tc Cert.Proof.Host
open Cert.KernelIdeal Cert.KernelIdeal.Gen
open Idealize.ShloMosaic
open Idealize.ShloMosaic.Pipeline (Dat Cfg Window BodyObligation)

/-- A sum over the gather's rows and columns, the padded columns at 0, is a sum over the sequences and their steps. -/
theorem reblock (G : Fin 128 → Fin 19 → EReal) :
    (∑ r : Fin 32, ∑ j : Fin 80, if h : j.val < 76 then G ⟨r.val * 4 + j.val / 19, by omega⟩ ⟨j.val % 19, by omega⟩ else 0)
      = ∑ b : Fin 128, ∑ t : Fin 19, G b t := by
  have h1 : ∀ r : Fin 32, (∑ j : Fin 80, if h : j.val < 76 then G ⟨r.val * 4 + j.val / 19, by omega⟩ ⟨j.val % 19, by omega⟩ else 0)
      = ∑ a : Fin 4, ∑ t : Fin 19, G ⟨r.val * 4 + a.val, by omega⟩ t := by
    intro r
    have e1 := Fin.sum_univ_add (a := 76) (b := 4) (fun j : Fin 80 => if h : j.val < 76 then G ⟨r.val * 4 + j.val / 19, by omega⟩ ⟨j.val % 19, by omega⟩ else 0)
    refine e1.trans ?_
    have e2 : (∑ i : Fin 4, (fun j : Fin 80 => if h : j.val < 76 then G ⟨r.val * 4 + j.val / 19, by omega⟩ ⟨j.val % 19, by omega⟩ else 0) (Fin.natAdd 76 i)) = 0 := by
      refine Finset.sum_eq_zero fun i _ => ?_
      exact dif_neg (by show ¬ (76 + i.val < 76); omega)
    rw [e2, add_zero]
    refine Eq.trans ?_ (Fintype.sum_prod_type (fun p : Fin 4 × Fin 19 => G ⟨r.val * 4 + p.1.val, by omega⟩ p.2))
    refine (Fintype.sum_equiv (finProdFinEquiv (m := 4) (n := 19)) _ _ fun p => ?_).symm
    obtain ⟨a, t⟩ := p
    have hj : (Fin.castAdd 4 (finProdFinEquiv (a, t))).val = t.val + 19 * a.val := rfl
    have hlt : (Fin.castAdd 4 (finProdFinEquiv (a, t))).val < 76 := by rw [hj]; omega
    rw [dif_pos hlt]
    congr 1
    · congr 1
      show r.val * 4 + a.val = r.val * 4 + (t.val + 19 * a.val) / 19
      omega
    · refine Fin.ext ?_
      show t.val = (t.val + 19 * a.val) % 19
      omega
  rw [Finset.sum_congr rfl fun r _ => h1 r]
  refine (Fintype.sum_prod_type (fun p : Fin 32 × Fin 4 => ∑ t : Fin 19, G ⟨p.1.val * 4 + p.2.val, by omega⟩ t)).symm.trans ?_
  refine Fintype.sum_equiv (finProdFinEquiv (m := 32) (n := 4)) _ _ fun p => ?_
  obtain ⟨r, a⟩ := p
  have e : (⟨r.val * 4 + a.val, by omega⟩ : Fin 128) = finProdFinEquiv (r, a) := Fin.ext (by show r.val * 4 + a.val = a.val + 4 * r.val; omega)
  show (∑ t : Fin 19, G ⟨r.val * 4 + a.val, _⟩ t) = _
  rw [e]

theorem column_bit : ∀ j : Fin 80, IntOp.cmpi .slt (BitVec.ofNat 32 j.val) 76#32 = if j.val < 76 then 1#1 else 0#1 := by decide

theorem select_pad (p : BitVec 1) (a : EReal) : Scalar.select (IntOp.andi 1#1 p) a 0 = Scalar.select p a 0 := by
  have : ∀ p : BitVec 1, IntOp.andi 1#1 p = p := by decide
  rw [this]

theorem select_out (p : BitVec 1) (a : EReal) : Scalar.select (IntOp.andi 0#1 p) a 0 = 0 := by
  have : ∀ p : BitVec 1, IntOp.andi 0#1 p = 0#1 := by decide
  rw [this]; rfl

/-- The picked logits' sum: over the rows and columns of the gather, or over the sequences and steps. -/
theorem picked_sum (P : Fin 32 → Fin 80 → EReal) (L : Fin 32 → Fin 80 → BitVec 32) (W : Fin 32 → Fin 80 → EReal)
    (p : Fin 128 → Fin 19 → EReal) (l : Fin 128 → BitVec 32) (w : Fin 128 → EReal)
    (hP : ∀ (r : Fin 32) (j : Fin 80) (h : j.val < 76), P r j = p ⟨r.val * 4 + j.val / 19, by omega⟩ ⟨j.val % 19, by omega⟩)
    (hL : ∀ (r : Fin 32) (j : Fin 80) (h : j.val < 76), L r j = l ⟨r.val * 4 + j.val / 19, by omega⟩)
    (hW : ∀ (r : Fin 32) (j : Fin 80) (h : j.val < 76), W r j = w ⟨r.val * 4 + j.val / 19, by omega⟩) :
    (∑ r : Fin 32, ∑ j : Fin 80, Scalar.select (IntOp.andi (IntOp.cmpi .slt (BitVec.ofNat 32 j.val) 76#32) (IntOp.cmpi .slt (stepWord r.val j.val) (IntOp.subi (L r j) 1#32)))
          (P r j * W r j) 0)
      = ∑ b : Fin 128, ∑ t : Fin 19, Scalar.select (within t.val (l b)) (p b t * w b) 0 := by
  refine Eq.trans ?_ (reblock fun b t => Scalar.select (within t.val (l b)) (p b t * w b) 0)
  refine Finset.sum_congr rfl fun r _ => Finset.sum_congr rfl fun j _ => ?_
  rw [column_bit]
  by_cases h : j.val < 76
  · rw [if_pos h, dif_pos h, select_pad, stepWord_eq, hP r j h, hL r j h, hW r j h]
    have e : (r.val * 76 + j.val) % 19 = j.val % 19 := by omega
    rw [e]
    rfl
  · rw [if_neg h, dif_neg h, select_out]

theorem coords_val : ∀ t : Fin cfg1.N, (grid1.coords t 0).val = t.val := (by decide +kernel : ∀ t : Fin grid1.N, _)

variable (m : (ℓ : Loc nD τ sig) → Buf (Elt Ideal) ℓ) (d : Dev nD)

variable (x : S128x19x12000.Idx → EReal) (cap : S128x20.Idx → BitVec 32) (l : S128.Idx → BitVec 32) (w : S128.Idx → EReal)

section
variable (hx : m (d, Proc.devRef .tc main_arg0) = x) (hc : m (d, Proc.devRef .tc main_arg5) = cap)
  (hl : m (d, Proc.devRef .tc main_arg6) = l) (hw : m (d, Proc.devRef .tc main_arg7) = w)

include hx in
theorem logits_at (t : Fin 19) (v : Fin 12000) (b : Fin 128) : VBr m d main_v0 (ix3 t v b) = x (ix3 b t v) := by
  subst hx
  have e : VB m d (Proc.devRef .tc main_v0) = xOf (m (d, Proc.devRef .tc main_arg0)) := (VB_ne m d _ (by decide)).trans (after_v0 _)
  show VB m d (Proc.devRef .tc main_v0) (ix3 t v b) = _
  rw [e]
  generalize m (d, Proc.devRef .tc main_arg0) = x
  pointwise [xOf]

include hl in
theorem lens_at (b : Fin 128) : VBr m d main_v2 (ix2 0 b) = l (ix1 b) := by
  subst hl
  have e : VB m d (Proc.devRef .tc main_v2) = shapeCast S1x128 (m (d, Proc.devRef .tc main_arg6)) shapeCasts_S128_S1x128 := (VB_ne m d _ (by decide)).trans (after_v2 _)
  show VB m d (Proc.devRef .tc main_v2) (ix2 0 b) = _
  rw [e]
  generalize m (d, Proc.devRef .tc main_arg6) = l
  pointwise []

include hw in
theorem wts_at (b : Fin 128) : VBr m d main_v3 (ix2 0 b) = w (ix1 b) := by
  subst hw
  have e : VB m d (Proc.devRef .tc main_v3) = shapeCast S1x128 (m (d, Proc.devRef .tc main_arg7)) shapeCasts_S128_S1x128 := (VB_ne m d _ (by decide)).trans (after_v3 _)
  show VB m d (Proc.devRef .tc main_v3) (ix2 0 b) = _
  rw [e]
  generalize m (d, Proc.devRef .tc main_arg7) = w
  pointwise []

theorem lensOf_at (l : (⟨S128, .i32⟩ : BufTy).Contents (Elt Ideal)) (r : Fin 32) (j : Fin 80) :
    lensOf (F := Ideal) l (ix2 r j) = if h : j.val < 76 then l (ix1 ⟨r.val * 4 + j.val / 19, by omega⟩) else (0#32 : BitVec 32) := by
  pointwise [lensOf]

theorem wtsOf_at (w : (⟨S128, .f32⟩ : BufTy).Contents (Elt Ideal)) (r : Fin 32) (j : Fin 80) (h : j.val < 76) :
    wtsOf (F := Ideal) w (ix2 r j) = w (ix1 ⟨r.val * 4 + j.val / 19, by omega⟩) := by
  have e : wtsOf (F := Ideal) w (ix2 r j) = if h : j.val < 76 then w (ix1 ⟨r.val * 4 + j.val / 19, by omega⟩) else FloatOps.sitofp (F := Ideal) .f32 0#32 := by
    pointwise [wtsOf]
  exact e.trans (dif_pos h)

include hl in
theorem rows_lens_at (r : Fin 32) (j : Fin 80) (h : j.val < 76) : VBr m d main_v23 (ix2 r j) = l (ix1 ⟨r.val * 4 + j.val / 19, by omega⟩) := by
  subst hl
  have e : VB m d (Proc.devRef .tc main_v23) = lensOf (m (d, Proc.devRef .tc main_arg6)) := (VB_ne m d _ (by decide)).trans (after_v23 _)
  show VB m d (Proc.devRef .tc main_v23) (ix2 r j) = _
  rw [e]
  exact (lensOf_at _ r j).trans (dif_pos h)

include hw in
theorem rows_wts_at (r : Fin 32) (j : Fin 80) (h : j.val < 76) : VBr m d main_v27 (ix2 r j) = w (ix1 ⟨r.val * 4 + j.val / 19, by omega⟩) := by
  subst hw
  have e : VB m d (Proc.devRef .tc main_v27) = wtsOf (m (d, Proc.devRef .tc main_arg7)) := (VB_ne m d _ (by decide)).trans (after_v27 _)
  show VB m d (Proc.devRef .tc main_v27) (ix2 r j) = _
  rw [e]
  exact wtsOf_at _ r j h

include hx hc in
/-- What the gather leaves: the logit of the target. -/
theorem rows_picked_at (hv : InVocab cap) (r : Fin 32) (j : Fin 80) (h : j.val < 76) :
    VBr m d main_v28 (ix2 r j) = x (ix3 ⟨r.val * 4 + j.val / 19, by omega⟩ ⟨j.val % 19, by omega⟩
      ⟨(nextWord cap ⟨r.val * 4 + j.val / 19, by omega⟩ ⟨j.val % 19, by omega⟩).toNat, hv _⟩) := by
  subst hx
  subst hc
  have e : VB m d (Proc.devRef .tc main_v28) = got (tb m) (ix m) d := VB_got m d
  show VB m d (Proc.devRef .tc main_v28) (ix2 r j) = _
  rw [e]
  show tb m d (flatIx (ix m d (ix2 r j)).toNat) = _
  have et : tb m d = tabOf (m (d, Proc.devRef .tc main_arg0)) := after_v1 _
  have ei : ix m d = ixOf (F := Ideal) (m (d, Proc.devRef .tc main_arg5)) := after_v19 _
  rw [et, ei]
  have e1 : (show BitVec 32 from ixOf (F := Ideal) (m (d, Proc.devRef .tc main_arg5)) (ix2 r j))
      = posOf (F := Ideal) (m (d, Proc.devRef .tc main_arg5)) (ix2 ⟨r.val * 4 + j.val / 19, by omega⟩ ⟨j.val % 19, by omega⟩) :=
    (ixOf_word (F := Ideal) _ r j).trans (dif_pos h)
  have e2 := posOf_toNat (F := Ideal) (m (d, Proc.devRef .tc main_arg5)) hv ⟨r.val * 4 + j.val / 19, by omega⟩ ⟨j.val % 19, by omega⟩
  have e3 := (congrArg BitVec.toNat e1).trans e2
  refine (congrArg (fun n => tabOf (m (d, Proc.devRef .tc main_arg0)) (flatIx n)) e3).trans ?_
  exact tabOf_flat (F := Ideal) _ ⟨r.val * 4 + j.val / 19, by omega⟩ ⟨j.val % 19, by omega⟩ ⟨_, hv _⟩

/-- One step's share of the sum of the weighted logarithms. -/
def stepA (t : Fin 19) : EReal :=
  ∑ b : Fin 128, Scalar.select (within t.val (l (ix1 b))) (Ideal.log (∑ v : Fin 12000, Ideal.exp (x (ix3 b t v))) * w (ix1 b)) 0

/-- One step's share of the count. -/
def stepC (t : Fin 19) : EReal := ∑ b : Fin 128, Scalar.select (within t.val (l (ix1 b))) (1 : EReal) 0

include hx hl hw in
theorem sums_step (t : Fin cfg1.N) (n : Fin 19) (hn : n.val = t.val) :
    sums (VBr m) d (t.val + 1) = ((sums (VBr m) d t.val).1 + stepA x l w n, (sums (VBr m) d t.val).2 + stepC l n) := by
  have hc : (grid1.coords t 0).val = n.val := (coords_val t).trans hn.symm
  have hc' : (grid1.coords t 0 : Fin 19) = n := Fin.ext hc
  rw [sums_succ, pay5_eq, pay6_eq]
  unfold stepA stepC
  simp only [iblk0_at, iblk1_at, iblk2_at, hc', logits_at m d x hx, lens_at m d l hl, wts_at m d w hw]

include hx hl hw in
theorem sums_all : sums (VBr m) d 19 = (∑ t : Fin 19, stepA x l w t, ∑ t : Fin 19, stepC l t) := by
  have key : ∀ n : ℕ, n ≤ 19 → sums (VBr m) d n
      = (∑ t ∈ Finset.range n, (if h : t < 19 then stepA x l w ⟨t, h⟩ else 0), ∑ t ∈ Finset.range n, (if h : t < 19 then stepC l ⟨t, h⟩ else 0)) := by
    intro n
    induction n with
    | zero =>
      intro _
      show ((Ideal.ofBits FTy.f32 0x00000000#32 : EReal), (Ideal.ofBits FTy.f32 0x00000000#32 : EReal)) = _
      have e : Ideal.ofBits FTy.f32 0x00000000#32 = (0 : EReal) := by simp [Ideal.ofBits, Ideal.ieee]
      rw [e, Finset.range_zero, Finset.sum_empty, Finset.sum_empty]
    | succ n ih =>
      intro h
      have hlt : n < 19 := h
      have hN : n < cfg1.N := by rw [show cfg1.N = 19 from N_1]; exact hlt
      rw [Finset.sum_range_succ, Finset.sum_range_succ, dif_pos hlt, dif_pos hlt]
      rw [sums_step m d x l w hx hl hw ⟨n, hN⟩ ⟨n, hlt⟩ rfl, ih (by omega)]
  rw [key 19 le_rfl, Finset.sum_range, Finset.sum_range]
  simp only [Fin.is_lt, dif_pos, Fin.eta]

include hx hc hl hw in
/-- The first result of the kernel, as sums over the sequences and their steps. -/
theorem kernel_ce (hv : InVocab cap) :
    ceOut (VBr m) d = Ideal.div (0 - ((∑ b : Fin 128, ∑ t : Fin 19, Scalar.select (within t.val (l (ix1 b))) (x (ix3 b t ⟨(nextWord cap b t).toNat, hv _⟩) * w (ix1 b)) 0)
        - ∑ t : Fin 19, stepA x l w t)) (∑ t : Fin 19, stepC l t) := by
  unfold ceOut
  rw [pay1_eq, pay2_eq, sums_all m d x l w hx hl hw]
  simp only [iblk3_at, iblk4_at, iblk5_at]
  rw [picked_sum (fun r j => VBr m d main_v28 (ix2 r j)) (fun r j => VBr m d main_v23 (ix2 r j)) (fun r j => VBr m d main_v27 (ix2 r j))
    (fun b t => x (ix3 b t ⟨(nextWord cap b t).toNat, hv _⟩)) (fun b => l (ix1 b)) (fun b => w (ix1 b))
    (rows_picked_at m d x cap hx hc hv) (rows_lens_at m d l hl) (rows_wts_at m d w hw)]

end

end Cert.Proof.Math

end
-- ==== Proof.Math.Ref.lean ====
/-
  What the reference computes, as sums over the extended reals.
-/
module

public import proofs.«01_k».proof.Proof.Gen.KernelIdeal
public import proofs.«01_k».proof.Proof.Gen.ReferenceIdeal
public import proofs.«01_k».proof.Proof.Gen.ReferenceIdeal.Run
public import proofs.«01_k».proof.Proof.Math.Real
public import Idealize.ShloMosaic.Lib.Pointwise

@[expose] public section

noncomputable section

namespace Cert.Proof.Math

open Cert.ReferenceIdeal Cert.ReferenceIdeal.Gen
open Idealize.ShloMosaic

/-- The gather of the reference, read at an entry: its operand at the index word, read signed and clamped. -/
theorem gather_at {α : Type} (x : S128x19x12000.Idx → α) (idx : IVec S128x19x1x1 32) (b : Fin 128) (t : Fin 19) :
    Host.gather gather_S128x19x12000_S128x19x1x1_S128x19x1_n_2_01_01_2_3_111 x idx (ix3 b t 0)
      = x (ix3 b t ⟨min (idx (ix4 b t 0 0)).toInt.toNat 11999, by omega⟩) := by
  unfold Host.gather
  congr 1
  funext a
  refine Fin.ext ?_
  show gather_S128x19x12000_S128x19x1x1_S128x19x1_n_2_01_01_2_3_111.start (ix3 b t 0) idx a
      + gather_S128x19x12000_S128x19x1x1_S128x19x1_n_2_01_01_2_3_111.batchCoord (ix3 b t 0) a
      + gather_S128x19x12000_S128x19x1x1_S128x19x1_n_2_01_01_2_3_111.offCoord (ix3 b t 0) a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  have hob : gather_S128x19x12000_S128x19x1x1_S128x19x1_n_2_01_01_2_3_111.operandBatchingDims = [0, 1] := rfl
  have hco : gather_S128x19x12000_S128x19x1x1_S128x19x1_n_2_01_01_2_3_111.collapsedSliceDims = [2] := rfl
  rcases h012 with rfl | rfl | rfl
  · rw [GatherDims.start_batching _ _ _ _ (by rw [hob]; decide),
      GatherDims.offCoord_eq_zero _ _ _ (fun h => ((GatherDims.mem_sKept _ _).mp h).2 (by rw [hob]; decide))]
    simp only [Nat.zero_add, Nat.add_zero]
    unfold GatherDims.batchCoord
    rw [dif_pos (by rw [hob]; decide)]
    rfl
  · rw [GatherDims.start_batching _ _ _ _ (by rw [hob]; decide),
      GatherDims.offCoord_eq_zero _ _ _ (fun h => ((GatherDims.mem_sKept _ _).mp h).2 (by rw [hob]; decide))]
    simp only [Nat.zero_add, Nat.add_zero]
    unfold GatherDims.batchCoord
    rw [dif_pos (by rw [hob]; decide)]
    rfl
  · rw [GatherDims.batchCoord_eq_zero _ _ _ (by rw [hob]; decide),
      GatherDims.offCoord_eq_zero _ _ _ (fun h => ((GatherDims.mem_sKept _ _).mp h).1 (by rw [hco]; decide))]
    simp only [Nat.add_zero]
    unfold GatherDims.start
    rw [dif_pos (show (2 : Fin 3) ∈ gather_S128x19x12000_S128x19x1x1_S128x19x1_n_2_01_01_2_3_111.startIndexMap from List.mem_singleton.mpr rfl)]
    have hsi : gather_S128x19x12000_S128x19x1x1_S128x19x1_n_2_01_01_2_3_111.siIdx (ix3 b t 0)
        ⟨List.idxOf (2 : Fin 3) gather_S128x19x12000_S128x19x1x1_S128x19x1_n_2_01_01_2_3_111.startIndexMap,
          List.idxOf_lt_length_iff.2 (List.mem_singleton.mpr rfl)⟩ = ix4 b t 0 0 := by
      funext e; refine Fin.ext ?_
      match e with
      | ⟨0, _⟩ => rfl
      | ⟨1, _⟩ => rfl
      | ⟨2, _⟩ => rfl
      | ⟨3, _⟩ => rfl
    rw [hsi]
    rfl

/-- The greatest of finitely many finite values, taken from the least of all, is finite. -/
theorem fold_max_real {n : ℕ} (f : Fin n → EReal) (hn : 0 < n) (hf : ∀ i, ∃ r : ℝ, f i = (r : EReal)) :
    ∃ M : ℝ, (Finset.univ : Finset (Fin n)).fold (FloatOps.maximumf (F := Ideal) (φ := .f32)) (⊥ : EReal) f = (M : EReal) := by
  have h1 : (Finset.univ : Finset (Fin n)).fold max (⊥ : EReal) f < ⊤ := by
    rw [Finset.fold_max_lt]
    refine ⟨bot_lt_top, fun i _ => ?_⟩
    obtain ⟨r, hr⟩ := hf i
    rw [hr]; exact EReal.coe_lt_top r
  have h2 : ⊥ < (Finset.univ : Finset (Fin n)).fold max (⊥ : EReal) f := by
    rw [Finset.lt_fold_max]
    refine Or.inr ⟨⟨0, hn⟩, Finset.mem_univ _, ?_⟩
    obtain ⟨r, hr⟩ := hf ⟨0, hn⟩
    rw [hr]; exact EReal.bot_lt_coe r
  exact ⟨_, (EReal.coe_toReal h1.ne h2.ne').symm⟩

theorem reduce_max_real {s t u : Shape} {a : Fin s.rank} (x : s.Idx → EReal) (hx : ∀ i, ∃ r : ℝ, x i = (r : EReal)) (init : u.Idx → EReal)
    (h' : s.ReducesTo [a] t) (h : s.Reduces [a] t) (hu : 0 < u.numel) (j : t.Idx) (hi : init (Shape.Idx.first hu) = ⊥) (h0 : 0 < s.size a) :
    ∃ M : ℝ, Host.reduce (FloatOps.maximumf (F := Ideal) (φ := .f32)) x init h' hu j = (M : EReal) := by
  rw [Host.reduce_eq_fold_single _ x init h' h hu j, hi]
  exact fold_max_real _ h0 fun i => hx _

/-- The reference's vector of greatest logits. -/
def maxV (x : FVec Ideal S128x19x12000 .f32) : FVec Ideal S128x19 .f32 :=
  maximumf (broadcastInDim S128x19 ![] bcast_S_S128x19 (constant S_ .f32 0xFF800000#32)) (Host.reduce FloatOps.maximumf x (constant S_ .f32 0xFF800000#32) reducesTo_S128x19x12000_S128x19_d2 h_S_)

theorem ninf : Ideal.ofBits FTy.f32 0xFF800000#32 = (⊥ : EReal) := by
  simp [Ideal.ofBits, Ideal.ieee]

theorem maximumf_at (u v : FVec Ideal S128x19 .f32) (j : S128x19.Idx) : maximumf u v j = max (u j : EReal) (v j) := rfl

theorem least_at (j : S128x19.Idx) : broadcastInDim S128x19 ![] bcast_S_S128x19 (constant (F := Ideal) S_ .f32 0xFF800000#32) j = (⊥ : EReal) := ninf

theorem least_first : constant (F := Ideal) S_ .f32 0xFF800000#32 (Shape.Idx.first h_S_) = (⊥ : EReal) := ninf

theorem reduces_last : S128x19x12000.Reduces [2] S128x19 := by decide

theorem reduced_real (x : FVec Ideal S128x19x12000 .f32) (hx : ∀ i, ∃ r : ℝ, x i = (r : EReal)) (j : S128x19.Idx) :
    ∃ M : ℝ, Host.reduce (FloatOps.maximumf (F := Ideal) (φ := .f32)) x (constant S_ .f32 0xFF800000#32) reducesTo_S128x19x12000_S128x19_d2 h_S_ j = (M : EReal) :=
  reduce_max_real x hx _ _ reduces_last _ j least_first (by decide)

theorem max_bot_real (u v : FVec Ideal S128x19 .f32) (j : S128x19.Idx) (hu : u j = (⊥ : EReal)) (hv : ∃ M : ℝ, v j = (M : EReal)) :
    ∃ M : ℝ, maximumf u v j = (M : EReal) := by
  obtain ⟨M, hM⟩ := hv
  exact ⟨M, by rw [maximumf_at, hu, hM]; exact max_eq_right bot_le⟩

theorem maxV_real (x : FVec Ideal S128x19x12000 .f32) (hx : ∀ i, ∃ r : ℝ, x i = (r : EReal)) (j : S128x19.Idx) : ∃ M : ℝ, maxV x j = (M : EReal) :=
  max_bot_real _ _ j (least_at j) (reduced_real x hx j)

/-- The logits less the greatest of their step. -/
def shifted (x : FVec Ideal S128x19x12000 .f32) (M : FVec Ideal S128x19 .f32) : FVec Ideal S128x19x12000 .f32 :=
  subf x (broadcastInDim S128x19x12000 ![0, 1, 2] bcast_S128x19x1_S128x19x12000_0_1_2 (broadcastInDim S128x19x1 ![0, 1] bcast_S128x19_S128x19x1_0_1 M))

theorem shifted_at (x : FVec Ideal S128x19x12000 .f32) (M : FVec Ideal S128x19 .f32) (b : Fin 128) (t : Fin 19) (v : Fin 12000) :
    shifted x M (ix3 b t v) = x (ix3 b t v) - M (ix2 b t) := by
  pointwise [shifted]

/-- The weighted logarithms of the softmax, of shifted logits. -/
def logpV (s : FVec Ideal S128x19x12000 .f32) (w : FVec Ideal S128 .f32) : FVec Ideal S128x19x12000 .f32 :=
  mulf (subf s (broadcastInDim S128x19x12000 ![0, 1, 2] bcast_S128x19x1_S128x19x12000_0_1_2 (Host.log (broadcastInDim S128x19x1 ![0, 1] bcast_S128x19_S128x19x1_0_1 (Host.reduceAdd (Host.exp s) (constant S_ .f32 0x00000000#32) reducesTo_S128x19x12000_S128x19_d2 h_S_))))) (broadcastInDim S128x19x12000 ![0, 1, 2] bcast_S128x1x1_S128x19x12000_0_1_2 (broadcastInDim S128x1x1 ![0] bcast_S128_S128x1x1_0 w))

theorem logpV_at (s : FVec Ideal S128x19x12000 .f32) (w : FVec Ideal S128 .f32) (b : Fin 128) (t : Fin 19) (v : Fin 12000) :
    logpV s w (ix3 b t v) = (s (ix3 b t v) - Ideal.log (∑ u : Fin 12000, Ideal.exp (s (ix3 b t u)))) * w (ix1 b) := by
  pointwise [logpV]

/-- The words of the targets, a negative one counted from the end. -/
def tgtV (cap : IVec S128x20 32) : IVec S128x19x1x1 32 :=
  shapeCast _ (select (cmpi .slt (broadcastInDim S128x19x1 ![0, 1] bcast_S128x19_S128x19x1_0_1 (extractStridedSlice S128x19 ![0, 1] cap slices_S128x20_S128x19_0_1)) (broadcastInDim S128x19x1 ![] bcast_S_S128x19x1 (constantI S_ 32 0#32))) (addi (broadcastInDim S128x19x1 ![0, 1] bcast_S128x19_S128x19x1_0_1 (extractStridedSlice S128x19 ![0, 1] cap slices_S128x20_S128x19_0_1)) (broadcastInDim S128x19x1 ![] bcast_S_S128x19x1 (constantI S_ 32 12000#32))) (broadcastInDim S128x19x1 ![0, 1] bcast_S128x19_S128x19x1_0_1 (extractStridedSlice S128x19 ![0, 1] cap slices_S128x20_S128x19_0_1))) shapeCasts_S128x19x1_S128x19x1x1

theorem tgtV_at (cap : IVec S128x20 32) (b : Fin 128) (t : Fin 19) :
    tgtV cap (ix4 b t 0 0) = Scalar.select (IntOp.cmpi .slt (cap (ix2 b ⟨1 + t.val, by omega⟩)) 0#32) (IntOp.addi (cap (ix2 b ⟨1 + t.val, by omega⟩)) 12000#32) (cap (ix2 b ⟨1 + t.val, by omega⟩)) := by
  pointwise [tgtV]

theorem inside (v : BitVec 32) (h : v.toNat < 12000) : IntOp.andi (IntOp.cmpi .sge v 0#32) (IntOp.cmpi .sle v 11999#32) = 1#1 := by
  have e0 : (IntOp.cmpi .sge v 0#32) = 1#1 := by
    simp only [IntOp.cmpi, BitVec.sle_eq_decide, BitVec.toInt_eq_toNat_cond, BitVec.toNat_ofNat, Nat.reducePow, Nat.reduceMod]
    rw [decide_eq_true (by omega)]; rfl
  have e1 : (IntOp.cmpi .sle v 11999#32) = 1#1 := by
    simp only [IntOp.cmpi, BitVec.sle_eq_decide, BitVec.toInt_eq_toNat_cond, BitVec.toNat_ofNat, Nat.reducePow, Nat.reduceMod]
    rw [decide_eq_true (by omega)]; rfl
  rw [e0, e1]; decide

theorem toInt_of_lt (v : BitVec 32) (h : v.toNat < 12000) : min v.toInt.toNat 11999 = v.toNat := by
  simp only [BitVec.toInt_eq_toNat_cond]
  omega

theorem wrap_of_lt (v : BitVec 32) (h : v.toNat < 12000) : Scalar.select (IntOp.cmpi .slt v 0#32) (IntOp.addi v 12000#32) v = v := by
  have e0 : (IntOp.cmpi .slt v 0#32) = 0#1 := by
    simp only [IntOp.cmpi, BitVec.slt_eq_decide, BitVec.toInt_eq_toNat_cond, BitVec.toNat_ofNat, Nat.reducePow, Nat.reduceMod]
    rw [decide_eq_false (by omega)]; rfl
  rw [e0]; rfl

/-- What the reference picks at each step: its operand at the target, where the target lies in the vocabulary. -/
def pickV (p : FVec Ideal S128x19x12000 .f32) (idx : IVec S128x19x1x1 32) : FVec Ideal S128x19 .f32 :=
  shapeCast _ (select (Host.reduce IntOp.andi (andi (cmpi .sge idx (broadcastInDim S128x19x1x1 ![] bcast_S_S128x19x1x1 (constantI S_ 32 0#32))) (cmpi .sle idx (broadcastInDim S128x19x1x1 ![0, 1, 2, 3] bcast_S1x1x1x1_S128x19x1x1_0_1_2_3 (broadcastInDim S1x1x1x1 ![3] bcast_S1_S1x1x1x1_3 (constantI S1 32 11999#32))))) (constantI S_ 1 1#1) reducesTo_S128x19x1x1_S128x19x1_d3 h_S_) (Host.gather gather_S128x19x12000_S128x19x1x1_S128x19x1_n_2_01_01_2_3_111 p idx) (broadcastInDim S128x19x1 ![] bcast_S_S128x19x1 (constant S_ .f32 0x7FC00000#32))) shapeCasts_S128x19x1_S128x19

theorem pickV_at (p : FVec Ideal S128x19x12000 .f32) (idx : IVec S128x19x1x1 32) (b : Fin 128) (t : Fin 19)
    (h : (idx (ix4 b t 0 0)).toNat < 12000) :
    pickV p idx (ix2 b t) = p (ix3 b t ⟨(idx (ix4 b t 0 0)).toNat, h⟩) := by
  pointwise [pickV]
  have hm : (Finset.fold IntOp.andi (1#1) (fun k : Fin 1 => IntOp.andi (IntOp.cmpi .sge (idx (ix4 b t 0 k)) 0#32) (IntOp.cmpi .sle (idx (ix4 b t 0 k)) 11999#32)) Finset.univ) = 1#1 := by
    rw [Finset.univ_unique, Finset.fold_singleton]
    exact (congrArg (fun z => IntOp.andi z 1#1) (inside _ h)).trans (by decide)
  rw [hm, gather_at]
  show p _ = _
  congr 2
  exact Fin.ext (toInt_of_lt _ h)

/-- The steps that count, as zeros and ones. -/
def maskV (l : IVec S128 32) : FVec Ideal S128x19 .f32 :=
  uitofp .f32 (cmpi .slt (broadcastInDim S128x19 ![0, 1] bcast_S1x19_S128x19_0_1 (broadcastInDim S1x19 ![1] bcast_S19_S1x19_1 (iotaInDim S19 32 0))) (broadcastInDim S128x19 ![0, 1] bcast_S128x1_S128x19_0_1 (broadcastInDim S128x1 ![0] bcast_S128_S128x1_0 (subi l (broadcastInDim S128 ![] bcast_S_S128 (constantI S_ 32 1#32))))))

theorem maskV_at (l : IVec S128 32) (b : Fin 128) (t : Fin 19) :
    maskV l (ix2 b t) = FloatOps.uitofp (F := Ideal) .f32 (IntOp.cmpi .slt (BitVec.ofNat 32 t.val) (IntOp.subi (l (ix1 b)) 1#32)) := by
  pointwise [maskV]

variable (m : (ℓ : Loc nD τ sig) → Buf (Elt Ideal) ℓ) (c : Dev nD)

theorem res_eq (x : FVec Ideal S128x19x12000 .f32) (cap : IVec S128x20 32) (l : IVec S128 32) (w : FVec Ideal S128 .f32)
    (hx : m ((c.tc : Thread nD τ).loc main_arg0) = x) (hc : m ((c.tc : Thread nD τ).loc main_arg5) = cap)
    (hl : m ((c.tc : Thread nD τ).loc main_arg6) = l) (hw : m ((c.tc : Thread nD τ).loc main_arg7) = w) :
    Cert.ReferenceIdeal.Value.res_main_v21 (F := Ideal) m c
      = Host.divf (Host.negf (Host.reduceAdd (mulf (pickV (logpV (shifted x (maxV x)) w) (tgtV cap)) (maskV l)) (constant S_ .f32 0x00000000#32) reducesTo_S128x19_S_d0_1 h_S_))
          (Host.reduceAdd (maskV l) (constant S_ .f32 0x00000000#32) reducesTo_S128x19_S_d0_1 h_S_) := by
  subst hx hc hl hw
  rfl

theorem top_eq (p k : FVec Ideal S128x19 .f32) (j : S_.Idx) :
    Host.divf (F := Ideal) (Host.negf (Host.reduceAdd (mulf p k) (constant S_ .f32 0x00000000#32) reducesTo_S128x19_S_d0_1 h_S_))
          (Host.reduceAdd k (constant S_ .f32 0x00000000#32) reducesTo_S128x19_S_d0_1 h_S_) j
      = Ideal.div (-∑ b : Fin 128, ∑ t : Fin 19, p (ix2 b t) * k (ix2 b t)) (∑ b : Fin 128, ∑ t : Fin 19, k (ix2 b t)) := by
  pointwise []

/-- The first loss of the reference, as sums: `x` the logits, `g` the targets, `l` the lengths, `w` the weights. -/
theorem ref_ce (x : FVec Ideal S128x19x12000 .f32) (cap : IVec S128x20 32) (l : IVec S128 32) (w : FVec Ideal S128 .f32)
    (hx : m ((c.tc : Thread nD τ).loc main_arg0) = x) (hc : m ((c.tc : Thread nD τ).loc main_arg5) = cap)
    (hl : m ((c.tc : Thread nD τ).loc main_arg6) = l) (hw : m ((c.tc : Thread nD τ).loc main_arg7) = w)
    (hv : ∀ j, (cap j).toNat < 12000) (j : S_.Idx) :
    Cert.ReferenceIdeal.Value.res_main_v21 (F := Ideal) m c j
      = Ideal.div (-∑ b : Fin 128, ∑ t : Fin 19,
            ((x (ix3 b t ⟨(cap (ix2 b ⟨1 + t.val, by omega⟩)).toNat, hv _⟩) - maxV x (ix2 b t)
              - Ideal.log (∑ u : Fin 12000, Ideal.exp (x (ix3 b t u) - maxV x (ix2 b t)))) * w (ix1 b))
            * FloatOps.uitofp (F := Ideal) .f32 (IntOp.cmpi .slt (BitVec.ofNat 32 t.val) (IntOp.subi (l (ix1 b)) 1#32)))
          (∑ b : Fin 128, ∑ t : Fin 19, FloatOps.uitofp (F := Ideal) .f32 (IntOp.cmpi .slt (BitVec.ofNat 32 t.val) (IntOp.subi (l (ix1 b)) 1#32))) := by
  rw [res_eq m c x cap l w hx hc hl hw, top_eq]
  have et : ∀ (b : Fin 128) (t : Fin 19), tgtV cap (ix4 b t 0 0) = cap (ix2 b ⟨1 + t.val, by omega⟩) := fun b t =>
    (tgtV_at cap b t).trans (wrap_of_lt _ (hv _))
  have e : ∀ (b : Fin 128) (t : Fin 19), pickV (logpV (shifted x (maxV x)) w) (tgtV cap) (ix2 b t)
      = (x (ix3 b t ⟨(cap (ix2 b ⟨1 + t.val, by omega⟩)).toNat, hv _⟩) - maxV x (ix2 b t)
              - Ideal.log (∑ u : Fin 12000, Ideal.exp (x (ix3 b t u) - maxV x (ix2 b t)))) * w (ix1 b) := by
    intro b t
    have h : (tgtV cap (ix4 b t 0 0)).toNat < 12000 := by rw [et]; exact hv _
    rw [pickV_at _ _ b t h, logpV_at]
    simp only [shifted_at]
    have e1 : (⟨(tgtV cap (ix4 b t 0 0)).toNat, h⟩ : Fin 12000) = ⟨(cap (ix2 b ⟨1 + t.val, by omega⟩)).toNat, hv _⟩ := Fin.ext (congrArg BitVec.toNat (et b t))
    rw [e1]
  simp only [e, maskV_at]

/-- The second loss of the reference, as a sum. -/
theorem ref_kl (mu s2 mup s2p : FVec Ideal S128x512 .f32) (j : S_.Idx) :
    Host.divf (F := Ideal) (mulf (constant S_ .f32 0xBF000000#32) (Host.reduceAdd (subf (subf (subf (addf (broadcastInDim S128x512 ![] bcast_S_S128x512 (constant S_ .f32 0x3F800000#32)) s2) s2p) (Host.divf (Host.exp s2) (Host.exp s2p))) (Host.divf (mulf (subf mu mup) (subf mu mup)) (Host.exp s2p))) (constant S_ .f32 0x00000000#32) reducesTo_S128x512_S_d0_1 h_S_)) (constant S_ .f32 0x43000000#32) j
      = Ideal.div (Ideal.ofBits FTy.f32 0xBF000000#32 * ∑ b : Fin 128, ∑ k : Fin 512, klReference (mu (ix2 b k)) (s2 (ix2 b k)) (mup (ix2 b k)) (s2p (ix2 b k)))
          (Ideal.ofBits FTy.f32 0x43000000#32) := by
  pointwise [klReference]

end Cert.Proof.Math
end
-- ==== Proof.Algebraic.lean ====
/-
  The kernel and its reference, at equal arguments, leave equal results.
-/
module

public import proofs.«01_k».proof.Proof.Frames
public import proofs.«01_k».proof.Proof.FramesFinite
public import proofs.«01_k».proof.Proof.Math.Sums
public import proofs.«01_k».proof.Proof.Math.Ref
public import Idealize.ShloMosaic.Lib.ReduceAll
public import proofs.«01_k».proof.Proof.Gen.Pre_cap_in_vocab_and_finite

@[expose] public section

noncomputable section

namespace Cert.Proof.Main

open Cert.Proof.Sc Cert.Proof.Tc Cert.Proof.Host Cert.Proof.Math
open Idealize.ShloMosaic Idealize.SL.Sem

/-- A value whose absolute value is less than the greatest of all is a real number. -/
theorem real_of_abs_lt (a : EReal) (h : Ideal.cmp .olt (max a (-a)) (Ideal.ofBits FTy.f32 0x7F800000#32) = 1#1) : ∃ r : ℝ, a = (r : EReal) := by
  have e : Ideal.ofBits FTy.f32 0x7F800000#32 = (⊤ : EReal) := by simp [Ideal.ofBits, Ideal.ieee]
  rw [e] at h
  simp only [Ideal.cmp, ofBool_eq_one, decide_eq_true_eq] at h
  induction a with
  | bot => simp at h
  | top => simp at h
  | coe r => exact ⟨r, rfl⟩

section Finite

open Cert.KernelIdeal Cert.KernelIdeal.Gen

theorem finite_of_pre (x : FVec Ideal S128x19x12000 .f32) (a b c d : FVec Ideal S128x512 .f32) (cap : IVec S128x20 32) (l : IVec S128 32) (w : FVec Ideal S128 .f32)
    (h : Cert.Pre_cap_in_vocab_and_finite.fn (F := Ideal) x a b c d cap l w = fun _ => 1#1) :
    (∀ i, ∃ r : ℝ, x i = (r : EReal)) ∧ (∀ i, ∃ r : ℝ, w i = (r : EReal)) := by
  have : Subsingleton Cert.Pre_cap_in_vocab_and_finite.S_.Idx := ⟨fun p q => funext fun k => k.elim0⟩
  have e := congrFun h (ix2 0 0)
  simp only [Cert.Pre_cap_in_vocab_and_finite.fn] at e
  have e1 := (andi_eq_one _ _).1 e
  have e2 := (andi_eq_one _ _).1 e1.1
  exact ⟨fun i => real_of_abs_lt _ (Host.reduce_andi_all _ _ _ _ _ e2.2 i), fun i => real_of_abs_lt _ (Host.reduce_andi_all _ _ _ _ _ e1.2 i)⟩

variable (m : (ℓ : Loc nD τ sig) → Buf (Elt Ideal) ℓ) (d : Dev nD)

/-- The second result of the kernel, as a sum. -/
theorem kernel_kl : klOut (VBr m) d = Ideal.div (Ideal.ofBits FTy.f32 0xBF000000#32 * ∑ b : Fin 128, ∑ k : Fin 512,
      klReference (m (d, Proc.devRef .tc main_arg1) (ix2 b k)) (m (d, Proc.devRef .tc main_arg2) (ix2 b k)) (m (d, Proc.devRef .tc main_arg3) (ix2 b k)) (m (d, Proc.devRef .tc main_arg4) (ix2 b k)))
    (Ideal.ofBits FTy.f32 0x43000000#32) := by
  have e1 : VBr m d main_arg1 = m (d, Proc.devRef .tc main_arg1) := VB_arg1 m d
  have e2 : VBr m d main_arg2 = m (d, Proc.devRef .tc main_arg2) := VB_arg2 m d
  have e3 : VBr m d main_arg3 = m (d, Proc.devRef .tc main_arg3) := VB_arg3 m d
  have e4 : VBr m d main_arg4 = m (d, Proc.devRef .tc main_arg4) := VB_arg4 m d
  unfold klOut
  rw [pay4_eq]
  simp only [iblk6_at, iblk7_at, iblk8_at, iblk9_at, e1, e2, e3, e4]
  congr 2
  exact Finset.sum_congr rfl fun b _ => Finset.sum_congr rfl fun k _ => kl_eq _ _ _ _

/-- What the two results hold when the kernel ends. -/
theorem results_of {r : PUnit × MemSt nD τ sig (Elt Ideal)} (h : QC m r) (c : Dev nD) :
    r.2.mem ((c.tc : Thread nD τ).loc main_v30) = (fun _ => ceOut (VBr m) c) ∧ r.2.mem ((c.tc : Thread nD τ).loc main_v31) = (fun _ => klOut (VBr m) c) := by
  refine ⟨(h.1 c _ (Finset.mem_filter.mpr ⟨StableHlo.devRef_mem_tcRefs main_v30, by decide⟩)).trans ?_,
    (h.1 c _ (Finset.mem_filter.mpr ⟨StableHlo.devRef_mem_tcRefs main_v31, by decide⟩)).trans ?_⟩
  · rw [VE_ce, show VC m c (Proc.devRef .tc main_v29_0) = fun _ => ceOut (VBr m) c from VC_ce m c]; rfl
  · rw [VE_kl, show VC m c (Proc.devRef .tc main_v29_1) = fun _ => klOut (VBr m) c from VC_kl m c]; rfl

end Finite

open Cert.KernelIdeal in
/-- The first loss of the reference is the kernel's, at arguments that agree. -/
theorem ce_agree (m : (ℓ : Loc nD τ sig) → Buf (Elt Ideal) ℓ)
    (m' : (ℓ : Loc Cert.ReferenceIdeal.nD Cert.ReferenceIdeal.τ Cert.ReferenceIdeal.sig) → Buf (Elt Ideal) ℓ) (c : Dev nD)
    (x : S128x19x12000.Idx → EReal) (cap : S128x20.Idx → BitVec 32) (l : S128.Idx → BitVec 32) (w : S128.Idx → EReal)
    (hx : m (c, Proc.devRef .tc main_arg0) = x) (hc : m (c, Proc.devRef .tc main_arg5) = cap)
    (hl : m (c, Proc.devRef .tc main_arg6) = l) (hw : m (c, Proc.devRef .tc main_arg7) = w)
    (hx' : m' ((c.tc : Thread Cert.ReferenceIdeal.nD Cert.ReferenceIdeal.τ).loc Cert.ReferenceIdeal.main_arg0) = x)
    (hc' : m' ((c.tc : Thread Cert.ReferenceIdeal.nD Cert.ReferenceIdeal.τ).loc Cert.ReferenceIdeal.main_arg5) = cap)
    (hl' : m' ((c.tc : Thread Cert.ReferenceIdeal.nD Cert.ReferenceIdeal.τ).loc Cert.ReferenceIdeal.main_arg6) = l)
    (hw' : m' ((c.tc : Thread Cert.ReferenceIdeal.nD Cert.ReferenceIdeal.τ).loc Cert.ReferenceIdeal.main_arg7) = w)
    (hv : InVocab cap) (fx : ∀ i, ∃ r : ℝ, x i = (r : EReal)) (fw : ∀ i, ∃ r : ℝ, w i = (r : EReal)) :
    Cert.ReferenceIdeal.Value.res_main_v21 (F := Ideal) m' c = fun _ => ceOut (VBr m) c := by
  funext j
  refine (ref_ce m' c x cap l w hx' hc' hl' hw' hv j).trans ?_
  refine Eq.trans ?_ (kernel_ce m c x cap l w hx hc hl hw hv).symm
  have fM := maxV_real x fx
  choose X hX using fx
  choose W hW using fw
  choose M hM using fM
  unfold stepA stepC
  simp only [hX, hW, hM]
  exact (ce_eq (by decide) (fun b t v => X (ix3 b t v)) (fun b => W (ix1 b)) (fun b t => ⟨(nextWord cap b t).toNat, hv _⟩) (fun b t => within t.val (l (ix1 b))) (fun b t => M (ix2 b t))).symm

theorem algebraic : Cert.algebraic_KernelIdeal_ReferenceIdeal_pre_cap_in_vocab_and_finite := by
  intro m g m' g' hpre ha
  refine ⟨fun c _ => ceOut (VBr m) c, fun c _ => klOut (VBr m) c, ?_, ?_⟩
  · exact (θ_run (Cert.KernelIdeal.defs (F := Ideal)) _ _).mono
      (fun _ h c => ⟨(results_of m h c).1, (results_of m h c).2, args_of (F := Ideal) m h c⟩)
      (run_main (F := Ideal) m g (ixOK_of (F := Ideal) m fun c => inVocab_of_pre' _ _ _ _ _ _ _ _ (hpre c)))
  · refine (θ_run (Cert.ReferenceIdeal.defs (F := Ideal)) _ _).mono (fun r h c => ?_) (Cert.ReferenceIdeal.Value.run (F := Ideal) m' g')
    obtain ⟨h0, h1, h2, h3, h4, h5, h6, h7⟩ := ha c
    have hf := finite_of_pre _ _ _ _ _ _ _ _ (hpre c)
    refine ⟨(h c).1.trans ?_, (h c).2.1.trans ?_, (h c).2.2⟩
    · exact ce_agree m m' c _ _ _ _ rfl rfl rfl rfl h0 h5 h6 h7 (inVocab_of_pre' _ _ _ _ _ _ _ _ (hpre c)) hf.1 hf.2
    · rw [h1, h2, h3, h4]
      funext j
      exact (ref_kl _ _ _ _ j).trans (kernel_kl m c).symm

end Cert.Proof.Main

end
-- ==== Proof.lean ====
/- The proof of the certificate's claims: their parts, put together. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_cap_in_vocab
public import proofs.«01_k».proof.Proof.Gen.Pre_cap_in_vocab_and_finite
public import proofs.«01_k».proof.Proof.Frames
public import proofs.«01_k».proof.Proof.FramesFinite
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_cap_in_vocab.Gen.facts,
  Cert.Pre_cap_in_vocab_and_finite.Gen.facts,
  Cert.Proof.Main.frame_kernel, Cert.Proof.Main.frame_ideal, Cert.Proof.Main.frame_ideal_finite, Cert.Proof.Main.frame_reference,
  Cert.Proof.Main.frame_reference_finite, trivial, Cert.Proof.Main.algebraic⟩

end Cert.Proof

end
